-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S96x1x6016 : Shape := ⟨3, ![96, 1, 6016]⟩
abbrev S23296x6016 : Shape := ⟨2, ![23296, 6016]⟩
abbrev S182x47 : Shape := ⟨2, ![182, 47]⟩
abbrev S96x47x128 : Shape := ⟨3, ![96, 47, 128]⟩
abbrev S_ : Shape := ⟨0, ![]⟩
abbrev S96x47 : Shape := ⟨2, ![96, 47]⟩

class Facts : Prop where
  bitsLt_bf16_f32 : FTy.bits .bf16 < FTy.bits .f32
  shapeCasts_S96x1x6016_S96x47x128 : S96x1x6016.ShapeCasts S96x47x128
  reducesTo_S96x47x128_S96x47_d2 : S96x47x128.ReducesTo [2] S96x47
  h_S_ : 0 < S_.numel
  bcast_S_S96x47 : S_.BroadcastsInDim S96x47 (![] : Fin 0 → Fin S96x47.rank)

variable [Facts]

def fn {F : FTy → Type} [FloatOps F] (main_arg0 : FVec F S96x1x6016 .bf16) (main_arg1 : FVec F S23296x6016 .fp8e4m3) (main_arg2 : FVec F S182x47 .f32) (main_arg3 : FVec F S23296x6016 .fp8e4m3) (main_arg4 : FVec F S182x47 .f32) : IVec S96x47 1 :=
  let main_v0 : FVec F S96x1x6016 .f32 := (extf .f32 · bitsLt_bf16_f32) main_arg0
  let main_v1 : FVec F S96x47x128 .f32 := shapeCast S96x47x128 main_v0 shapeCasts_S96x1x6016_S96x47x128
  let main_v2 : FVec F S96x47x128 .f32 := Host.absf main_v1
  let main_cst : FVec F S_ .f32 := constant S_ .f32 0xFF800000#32
  let main_v3 : FVec F S96x47 .f32 := (fun x v => Host.reduce FloatOps.maximumf x v reducesTo_S96x47x128_S96x47_d2 h_S_) main_v2 main_cst
  let main_cst_0 : FVec F S_ .f32 := constant S_ .f32 0x3B124925#32
  let main_v4 : FVec F S96x47 .f32 := broadcastInDim S96x47 ![] bcast_S_S96x47 main_cst_0
  let main_v5 : FVec F S96x47 .f32 := mulf main_v3 main_v4
  let main_cst_1 : FVec F S_ .f32 := constant S_ .f32 0x00000000#32
  let main_v6 : FVec F S96x47 .f32 := broadcastInDim S96x47 ![] bcast_S_S96x47 main_cst_1
  let main_v7 : IVec S96x47 1 := cmpf .oeq main_v3 main_v6
  let main_cst_2 : FVec F S_ .f32 := constant S_ .f32 0x7F800000#32
  let main_v8 : FVec F S96x47 .f32 := broadcastInDim S96x47 ![] bcast_S_S96x47 main_cst_2
  let main_v9 : IVec S96x47 1 := cmpf .oeq main_v3 main_v8
  let main_v10 : IVec S96x47 1 := ori main_v7 main_v9
  let main_cst_3 : FVec F S_ .f32 := constant S_ .f32 0x00400000#32
  let main_v11 : FVec F S96x47 .f32 := broadcastInDim S96x47 ![] bcast_S_S96x47 main_cst_3
  let main_v12 : IVec S96x47 1 := cmpf .oge main_v5 main_v11
  let main_cst_4 : FVec F S_ .f32 := constant S_ .f32 0x7E800000#32
  let main_v13 : FVec F S96x47 .f32 := broadcastInDim S96x47 ![] bcast_S_S96x47 main_cst_4
  let main_v14 : IVec S96x47 1 := cmpf .olt main_v5 main_v13
  let main_v15 : IVec S96x47 1 := andi main_v12 main_v14
  let main_v16 : IVec S96x47 1 := ori main_v10 main_v15
  main_v16
-- ==== Kernel.lean ====
abbrev S96x1x6016 : Shape := ⟨3, ![96, 1, 6016]⟩
abbrev S23296x6016 : Shape := ⟨2, ![23296, 6016]⟩
abbrev S182x47 : Shape := ⟨2, ![182, 47]⟩
abbrev S96x6016 : Shape := ⟨2, ![96, 6016]⟩
abbrev S96x23296 : Shape := ⟨2, ![96, 23296]⟩
abbrev S96x47 : Shape := ⟨2, ![96, 47]⟩
abbrev S256x6016 : Shape := ⟨2, ![256, 6016]⟩
abbrev S96x256 : Shape := ⟨2, ![96, 256]⟩
abbrev S24x256x256 : Shape := ⟨3, ![24, 256, 256]⟩
abbrev S128x128 : Shape := ⟨2, ![128, 128]⟩
abbrev S32x128 : Shape := ⟨2, ![32, 128]⟩
abbrev S96x128 : Shape := ⟨2, ![96, 128]⟩
abbrev S128 : Shape := ⟨1, ![128]⟩
abbrev S1x128 : Shape := ⟨2, ![1, 128]⟩
abbrev S256x128 : Shape := ⟨2, ![256, 128]⟩
abbrev S1x128x128 : Shape := ⟨3, ![1, 128, 128]⟩
abbrev S256x256 : Shape := ⟨2, ![256, 256]⟩
abbrev S1x256x256 : Shape := ⟨3, ![1, 256, 256]⟩
abbrev S1x1 : Shape := ⟨2, ![1, 1]⟩
abbrev S128x256 : Shape := ⟨2, ![128, 256]⟩

abbrev nBuf : Space → Nat
  | .hbm => 9
  | .vmem => 11
  | .smem => 2
  | _ => 0

abbrev bufTy : (tb : Table) → Fin (tcTables nBuf tb) → BufTy
  | .hbm, ⟨0, _⟩ => ⟨S96x1x6016, .bf16⟩
  | .hbm, ⟨1, _⟩ => ⟨S23296x6016, .fp8e4m3⟩
  | .hbm, ⟨2, _⟩ => ⟨S182x47, .f32⟩
  | .hbm, ⟨3, _⟩ => ⟨S23296x6016, .fp8e4m3⟩
  | .hbm, ⟨4, _⟩ => ⟨S182x47, .f32⟩
  | .hbm, ⟨5, _⟩ => ⟨S96x6016, .bf16⟩
  | .hbm, ⟨6, _⟩ => ⟨S96x23296, .bf16⟩
  | .hbm, ⟨7, _⟩ => ⟨S96x6016, .fp8e4m3⟩
  | .hbm, ⟨8, _⟩ => ⟨S96x47, .f32⟩
  | .local _ .vmem, ⟨0, _⟩ => ⟨S96x6016, .bf16⟩
  | .local _ .vmem, ⟨1, _⟩ => ⟨S256x6016, .fp8e4m3⟩
  | .local _ .vmem, ⟨2, _⟩ => ⟨S256x6016, .fp8e4m3⟩
  | .local _ .vmem, ⟨3, _⟩ => ⟨S256x6016, .fp8e4m3⟩
  | .local _ .vmem, ⟨4, _⟩ => ⟨S256x6016, .fp8e4m3⟩
  | .local _ .vmem, ⟨5, _⟩ => ⟨S96x256, .bf16⟩
  | .local _ .vmem, ⟨6, _⟩ => ⟨S96x256, .bf16⟩
  | .local _ .vmem, ⟨7, _⟩ => ⟨S96x6016, .fp8e4m3⟩
  | .local _ .vmem, ⟨8, _⟩ => ⟨S96x47, .f32⟩
  | .local _ .vmem, ⟨9, _⟩ => ⟨S24x256x256, .fp8e4m3⟩
  | .local _ .vmem, ⟨10, _⟩ => ⟨S128x128, .f32⟩
  | .local _ .smem, ⟨0, _⟩ => ⟨S182x47, .f32⟩
  | .local _ .smem, ⟨1, _⟩ => ⟨S182x47, .f32⟩
  | _, _ => ⟨S96x1x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![91], ![false]⟩

def k0_off1 (i : grid0.Coords) (c0_i32_7 : BitVec 32) : Fin 2 → Nat :=
  let arg0 : BitVec 32 := BitVec.ofNat 32 (i 0).val
  let c2_i32 : BitVec 32 := 2#32
  let v8 : BitVec 32 := Scalar.muli arg0 c2_i32
  let v9 : BitVec 32 := Scalar.addi v8 c0_i32_7
  let v10 : Index := Scalar.indexCast v9
  let c0_8 : Index := 0#32
  ![v10.toNat, 0]
def k0_off2 (i : grid0.Coords) (c0_i32_11 : BitVec 32) : Fin 2 → Nat :=
  let arg0 : BitVec 32 := BitVec.ofNat 32 (i 0).val
  let c2_i32_10 : BitVec 32 := 2#32
  let v18 : BitVec 32 := Scalar.muli arg0 c2_i32_10
  let v19 : BitVec 32 := Scalar.addi v18 c0_i32_11
  let v20 : Index := Scalar.indexCast v19
  let c1_12 : Index := 1#32
  ![v20.toNat, 1]
def k0_off3 (i : grid0.Coords) (c0_i32_29 : BitVec 32) : Fin 2 → Nat :=
  let arg0 : BitVec 32 := BitVec.ofNat 32 (i 0).val
  let c2_i32_28 : BitVec 32 := 2#32
  let v54 : BitVec 32 := Scalar.muli arg0 c2_i32_28
  let v55 : BitVec 32 := Scalar.addi v54 c0_i32_29
  let v56 : Index := Scalar.indexCast v55
  let c2_30 : Index := 2#32
  ![v56.toNat, 2]
def k0_off4 (i : grid0.Coords) (c0_i32_33 : BitVec 32) : Fin 2 → Nat :=
  let arg0 : BitVec 32 := BitVec.ofNat 32 (i 0).val
  let c2_i32_32 : BitVec 32 := 2#32
  let v65 : BitVec 32 := Scalar.muli arg0 c2_i32_32
  let v66 : BitVec 32 := Scalar.addi v65 c0_i32_33
  let v67 : Index := Scalar.indexCast v66
  let c3_34 : Index := 3#32
  ![v67.toNat, 3]
def k0_off5 (i : grid0.Coords) (c0_i32_52 : BitVec 32) : Fin 2 → Nat :=
  let arg0 : BitVec 32 := BitVec.ofNat 32 (i 0).val
  let c2_i32_51 : BitVec 32 := 2#32
  let v102 : BitVec 32 := Scalar.muli arg0 c2_i32_51
  let v103 : BitVec 32 := Scalar.addi v102 c0_i32_52
  let v104 : Index := Scalar.indexCast v103
  let c4_53 : Index := 4#32
  ![v104.toNat, 4]
def k0_off6 (i : grid0.Coords) (c0_i32_56 : BitVec 32) : Fin 2 → Nat :=
  let arg0 : BitVec 32 := BitVec.ofNat 32 (i 0).val
  let c2_i32_55 : BitVec 32 := 2#32
  let v113 : BitVec 32 := Scalar.muli arg0 c2_i32_55
  let v114 : BitVec 32 := Scalar.addi v113 c0_i32_56
  let v115 : Index := Scalar.indexCast v114
  let c5_57 : Index := 5#32
  ![v115.toNat, 5]
def k0_off7 (i : grid0.Coords) (c0_i32_75 : BitVec 32) : Fin 2 → Nat :=
  let arg0 : BitVec 32 := BitVec.ofNat 32 (i 0).val
  let c2_i32_74 : BitVec 32 := 2#32
  let v150 : BitVec 32 := Scalar.muli arg0 c2_i32_74
  let v151 : BitVec 32 := Scalar.addi v150 c0_i32_75
  let v152 : Index := Scalar.indexCast v151
  let c6_76 : Index := 6#32
  ![v152.toNat, 6]
def k0_off8 (i : grid0.Coords) (c0_i32_79 : BitVec 32) : Fin 2 → Nat :=
  let arg0 : BitVec 32 := BitVec.ofNat 32 (i 0).val
  let c2_i32_78 : BitVec 32 := 2#32
  let v161 : BitVec 32 := Scalar.muli arg0 c2_i32_78
  let v162 : BitVec 32 := Scalar.addi v161 c0_i32_79
  let v163 : Index := Scalar.indexCast v162
  let c7_80 : Index := 7#32
  ![v163.toNat, 7]
def k0_off9 (i : grid0.Coords) (c0_i32_98 : BitVec 32) : Fin 2 → Nat :=
  let arg0 : BitVec 32 := BitVec.ofNat 32 (i 0).val
  let c2_i32_97 : BitVec 32 := 2#32
  let v198 : BitVec 32 := Scalar.muli arg0 c2_i32_97
  let v199 : BitVec 32 := Scalar.addi v198 c0_i32_98
  let v200 : Index := Scalar.indexCast v199
  let c8_99 : Index := 8#32
  ![v200.toNat, 8]
def k0_off10 (i : grid0.Coords) (c0_i32_102 : BitVec 32) : Fin 2 → Nat :=
  let arg0 : BitVec 32 := BitVec.ofNat 32 (i 0).val
  let c2_i32_101 : BitVec 32 := 2#32
  let v209 : BitVec 32 := Scalar.muli arg0 c2_i32_101
  let v210 : BitVec 32 := Scalar.addi v209 c0_i32_102
  let v211 : Index := Scalar.indexCast v210
  let c9_103 : Index := 9#32
  ![v211.toNat, 9]
def k0_off11 (i : grid0.Coords) (c0_i32_121 : BitVec 32) : Fin 2 → Nat :=
  let arg0 : BitVec 32 := BitVec.ofNat 32 (i 0).val
  let c2_i32_120 : BitVec 32 := 2#32
  let v246 : BitVec 32 := Scalar.muli arg0 c2_i32_120
  let v247 : BitVec 32 := Scalar.addi v246 c0_i32_121
  let v248 : Index := Scalar.indexCast v247
  let c10_122 : Index := 10#32
  ![v248.toNat, 10]
def k0_off12 (i : grid0.Coords) (c0_i32_125 : BitVec 32) : Fin 2 → Nat :=
  let arg0 : BitVec 32 := BitVec.ofNat 32 (i 0).val
  let c2_i32_124 : BitVec 32 := 2#32
  let v257 : BitVec 32 := Scalar.muli arg0 c2_i32_124
  let v258 : BitVec 32 := Scalar.addi v257 c0_i32_125
  let v259 : Index := Scalar.indexCast v258
  let c11_126 : Index := 11#32
  ![v259.toNat, 11]
def k0_off13 (i : grid0.Coords) (c0_i32_144 : BitVec 32) : Fin 2 → Nat :=
  let arg0 : BitVec 32 := BitVec.ofNat 32 (i 0).val
  let c2_i32_143 : BitVec 32 := 2#32
  let v294 : BitVec 32 := Scalar.muli arg0 c2_i32_143
  let v295 : BitVec 32 := Scalar.addi v294 c0_i32_144
  let v296 : Index := Scalar.indexCast v295
  let c12_145 : Index := 12#32
  ![v296.toNat, 12]
def k0_off14 (i : grid0.Coords) (c0_i32_148 : BitVec 32) : Fin 2 → Nat :=
  let arg0 : BitVec 32 := BitVec.ofNat 32 (i 0).val
  let c2_i32_147 : BitVec 32 := 2#32
  let v305 : BitVec 32 := Scalar.muli arg0 c2_i32_147
  let v306 : BitVec 32 := Scalar.addi v305 c0_i32_148
  let v307 : Index := Scalar.indexCast v306
  let c13_149 : Index := 13#32
  ![v307.toNat, 13]
def k0_off15 (i : grid0.Coords) (c0_i32_167 : BitVec 32) : Fin 2 → Nat :=
  let arg0 : BitVec 32 := BitVec.ofNat 32 (i 0).val
  let c2_i32_166 : BitVec 32 := 2#32
  let v342 : BitVec 32 := Scalar.muli arg0 c2_i32_166
  let v343 : BitVec 32 := Scalar.addi v342 c0_i32_167
  let v344 : Index := Scalar.indexCast v343
  let c14_168 : Index := 14#32
  ![v344.toNat, 14]
def k0_off16 (i : grid0.Coords) (c0_i32_171 : BitVec 32) : Fin 2 → Nat :=
  let arg0 : BitVec 32 := BitVec.ofNat 32 (i 0).val
  let c2_i32_170 : BitVec 32 := 2#32
  let v353 : BitVec 32 := Scalar.muli arg0 c2_i32_170
  let v354 : BitVec 32 := Scalar.addi v353 c0_i32_171
  let v355 : Index := Scalar.indexCast v354
  let c15_172 : Index := 15#32
  ![v355.toNat, 15]
def k0_off17 (i : grid0.Coords) (c0_i32_190 : BitVec 32) : Fin 2 → Nat :=
  let arg0 : BitVec 32 := BitVec.ofNat 32 (i 0).val
  let c2_i32_189 : BitVec 32 := 2#32
  let v390 : BitVec 32 := Scalar.muli arg0 c2_i32_189
  let v391 : BitVec 32 := Scalar.addi v390 c0_i32_190
  let v392 : Index := Scalar.indexCast v391
  let c16_191 : Index := 16#32
  ![v392.toNat, 16]
def k0_off18 (i : grid0.Coords) (c0_i32_194 : BitVec 32) : Fin 2 → Nat :=
  let arg0 : BitVec 32 := BitVec.ofNat 32 (i 0).val
  let c2_i32_193 : BitVec 32 := 2#32
  let v401 : BitVec 32 := Scalar.muli arg0 c2_i32_193
  let v402 : BitVec 32 := Scalar.addi v401 c0_i32_194
  let v403 : Index := Scalar.indexCast v402
  let c17_195 : Index := 17#32
  ![v403.toNat, 17]
def k0_off19 (i : grid0.Coords) (c0_i32_213 : BitVec 32) : Fin 2 → Nat :=
  let arg0 : BitVec 32 := BitVec.ofNat 32 (i 0).val
  let c2_i32_212 : BitVec 32 := 2#32
  let v438 : BitVec 32 := Scalar.muli arg0 c2_i32_212
  let v439 : BitVec 32 := Scalar.addi v438 c0_i32_213
  let v440 : Index := Scalar.indexCast v439
  let c18_214 : Index := 18#32
  ![v440.toNat, 18]
def k0_off20 (i : grid0.Coords) (c0_i32_217 : BitVec 32) : Fin 2 → Nat :=
  let arg0 : BitVec 32 := BitVec.ofNat 32 (i 0).val
  let c2_i32_216 : BitVec 32 := 2#32
  let v449 : BitVec 32 := Scalar.muli arg0 c2_i32_216
  let v450 : BitVec 32 := Scalar.addi v449 c0_i32_217
  let v451 : Index := Scalar.indexCast v450
  let c19_218 : Index := 19#32
  ![v451.toNat, 19]
def k0_off21 (i : grid0.Coords) (c0_i32_236 : BitVec 32) : Fin 2 → Nat :=
  let arg0 : BitVec 32 := BitVec.ofNat 32 (i 0).val
  let c2_i32_235 : BitVec 32 := 2#32
  let v486 : BitVec 32 := Scalar.muli arg0 c2_i32_235
  let v487 : BitVec 32 := Scalar.addi v486 c0_i32_236
  let v488 : Index := Scalar.indexCast v487
  let c20_237 : Index := 20#32
  ![v488.toNat, 20]
def k0_off22 (i : grid0.Coords) (c0_i32_240 : BitVec 32) : Fin 2 → Nat :=
  let arg0 : BitVec 32 := BitVec.ofNat 32 (i 0).val
  let c2_i32_239 : BitVec 32 := 2#32
  let v497 : BitVec 32 := Scalar.muli arg0 c2_i32_239
  let v498 : BitVec 32 := Scalar.addi v497 c0_i32_240
  let v499 : Index := Scalar.indexCast v498
  let c21_241 : Index := 21#32
  ![v499.toNat, 21]
def k0_off23 (i : grid0.Coords) (c0_i32_259 : BitVec 32) : Fin 2 → Nat :=
  let arg0 : BitVec 32 := BitVec.ofNat 32 (i 0).val
  let c2_i32_258 : BitVec 32 := 2#32
  let v534 : BitVec 32 := Scalar.muli arg0 c2_i32_258
  let v535 : BitVec 32 := Scalar.addi v534 c0_i32_259
  let v536 : Index := Scalar.indexCast v535
  let c22_260 : Index := 22#32
  ![v536.toNat, 22]
def k0_off24 (i : grid0.Coords) (c0_i32_263 : BitVec 32) : Fin 2 → Nat :=
  let arg0 : BitVec 32 := BitVec.ofNat 32 (i 0).val
  let c2_i32_262 : BitVec 32 := 2#32
  let v545 : BitVec 32 := Scalar.muli arg0 c2_i32_262
  let v546 : BitVec 32 := Scalar.addi v545 c0_i32_263
  let v547 : Index := Scalar.indexCast v546
  let c23_264 : Index := 23#32
  ![v547.toNat, 23]
def k0_off25 (i : grid0.Coords) (c0_i32_282 : BitVec 32) : Fin 2 → Nat :=
  let arg0 : BitVec 32 := BitVec.ofNat 32 (i 0).val
  let c2_i32_281 : BitVec 32 := 2#32
  let v582 : BitVec 32 := Scalar.muli arg0 c2_i32_281
  let v583 : BitVec 32 := Scalar.addi v582 c0_i32_282
  let v584 : Index := Scalar.indexCast v583
  let c24_283 : Index := 24#32
  ![v584.toNat, 24]
def k0_off26 (i : grid0.Coords) (c0_i32_286 : BitVec 32) : Fin 2 → Nat :=
  let arg0 : BitVec 32 := BitVec.ofNat 32 (i 0).val
  let c2_i32_285 : BitVec 32 := 2#32
  let v593 : BitVec 32 := Scalar.muli arg0 c2_i32_285
  let v594 : BitVec 32 := Scalar.addi v593 c0_i32_286
  let v595 : Index := Scalar.indexCast v594
  let c25_287 : Index := 25#32
  ![v595.toNat, 25]
def k0_off27 (i : grid0.Coords) (c0_i32_305 : BitVec 32) : Fin 2 → Nat :=
  let arg0 : BitVec 32 := BitVec.ofNat 32 (i 0).val
  let c2_i32_304 : BitVec 32 := 2#32
  let v630 : BitVec 32 := Scalar.muli arg0 c2_i32_304
  let v631 : BitVec 32 := Scalar.addi v630 c0_i32_305
  let v632 : Index := Scalar.indexCast v631
  let c26_306 : Index := 26#32
  ![v632.toNat, 26]
def k0_off28 (i : grid0.Coords) (c0_i32_309 : BitVec 32) : Fin 2 → Nat :=
  let arg0 : BitVec 32 := BitVec.ofNat 32 (i 0).val
  let c2_i32_308 : BitVec 32 := 2#32
  let v641 : BitVec 32 := Scalar.muli arg0 c2_i32_308
  let v642 : BitVec 32 := Scalar.addi v641 c0_i32_309
  let v643 : Index := Scalar.indexCast v642
  let c27_310 : Index := 27#32
  ![v643.toNat, 27]
def k0_off29 (i : grid0.Coords) (c0_i32_328 : BitVec 32) : Fin 2 → Nat :=
  let arg0 : BitVec 32 := BitVec.ofNat 32 (i 0).val
  let c2_i32_327 : BitVec 32 := 2#32
  let v678 : BitVec 32 := Scalar.muli arg0 c2_i32_327
  let v679 : BitVec 32 := Scalar.addi v678 c0_i32_328
  let v680 : Index := Scalar.indexCast v679
  let c28_329 : Index := 28#32
  ![v680.toNat, 28]
def k0_off30 (i : grid0.Coords) (c0_i32_332 : BitVec 32) : Fin 2 → Nat :=
  let arg0 : BitVec 32 := BitVec.ofNat 32 (i 0).val
  let c2_i32_331 : BitVec 32 := 2#32
  let v689 : BitVec 32 := Scalar.muli arg0 c2_i32_331
  let v690 : BitVec 32 := Scalar.addi v689 c0_i32_332
  let v691 : Index := Scalar.indexCast v690
  let c29_333 : Index := 29#32
  ![v691.toNat, 29]
def k0_off31 (i : grid0.Coords) (c0_i32_351 : BitVec 32) : Fin 2 → Nat :=
  let arg0 : BitVec 32 := BitVec.ofNat 32 (i 0).val
  let c2_i32_350 : BitVec 32 := 2#32
  let v726 : BitVec 32 := Scalar.muli arg0 c2_i32_350
  let v727 : BitVec 32 := Scalar.addi v726 c0_i32_351
  let v728 : Index := Scalar.indexCast v727
  let c30_352 : Index := 30#32
  ![v728.toNat, 30]
def k0_off32 (i : grid0.Coords) (c0_i32_355 : BitVec 32) : Fin 2 → Nat :=
  let arg0 : BitVec 32 := BitVec.ofNat 32 (i 0).val
  let c2_i32_354 : BitVec 32 := 2#32
  let v737 : BitVec 32 := Scalar.muli arg0 c2_i32_354
  let v738 : BitVec 32 := Scalar.addi v737 c0_i32_355
  let v739 : Index := Scalar.indexCast v738
  let c31_356 : Index := 31#32
  ![v739.toNat, 31]
def k0_off33 (i : grid0.Coords) (c0_i32_374 : BitVec 32) : Fin 2 → Nat :=
  let arg0 : BitVec 32 := BitVec.ofNat 32 (i 0).val
  let c2_i32_373 : BitVec 32 := 2#32
  let v774 : BitVec 32 := Scalar.muli arg0 c2_i32_373
  let v775 : BitVec 32 := Scalar.addi v774 c0_i32_374
  let v776 : Index := Scalar.indexCast v775
  let c32_375 : Index := 32#32
  ![v776.toNat, 32]
def k0_off34 (i : grid0.Coords) (c0_i32_378 : BitVec 32) : Fin 2 → Nat :=
  let arg0 : BitVec 32 := BitVec.ofNat 32 (i 0).val
  let c2_i32_377 : BitVec 32 := 2#32
  let v785 : BitVec 32 := Scalar.muli arg0 c2_i32_377
  let v786 : BitVec 32 := Scalar.addi v785 c0_i32_378
  let v787 : Index := Scalar.indexCast v786
  let c33_379 : Index := 33#32
  ![v787.toNat, 33]
def k0_off35 (i : grid0.Coords) (c0_i32_397 : BitVec 32) : Fin 2 → Nat :=
  let arg0 : BitVec 32 := BitVec.ofNat 32 (i 0).val
  let c2_i32_396 : BitVec 32 := 2#32
  let v822 : BitVec 32 := Scalar.muli arg0 c2_i32_396
  let v823 : BitVec 32 := Scalar.addi v822 c0_i32_397
  let v824 : Index := Scalar.indexCast v823
  let c34_398 : Index := 34#32
  ![v824.toNat, 34]
def k0_off36 (i : grid0.Coords) (c0_i32_401 : BitVec 32) : Fin 2 → Nat :=
  let arg0 : BitVec 32 := BitVec.ofNat 32 (i 0).val
  let c2_i32_400 : BitVec 32 := 2#32
  let v833 : BitVec 32 := Scalar.muli arg0 c2_i32_400
  let v834 : BitVec 32 := Scalar.addi v833 c0_i32_401
  let v835 : Index := Scalar.indexCast v834
  let c35_402 : Index := 35#32
  ![v835.toNat, 35]
def k0_off37 (i : grid0.Coords) (c0_i32_420 : BitVec 32) : Fin 2 → Nat :=
  let arg0 : BitVec 32 := BitVec.ofNat 32 (i 0).val
  let c2_i32_419 : BitVec 32 := 2#32
  let v870 : BitVec 32 := Scalar.muli arg0 c2_i32_419
  let v871 : BitVec 32 := Scalar.addi v870 c0_i32_420
  let v872 : Index := Scalar.indexCast v871
  let c36_421 : Index := 36#32
  ![v872.toNat, 36]
def k0_off38 (i : grid0.Coords) (c0_i32_424 : BitVec 32) : Fin 2 → Nat :=
  let arg0 : BitVec 32 := BitVec.ofNat 32 (i 0).val
  let c2_i32_423 : BitVec 32 := 2#32
  let v881 : BitVec 32 := Scalar.muli arg0 c2_i32_423
  let v882 : BitVec 32 := Scalar.addi v881 c0_i32_424
  let v883 : Index := Scalar.indexCast v882
  let c37_425 : Index := 37#32
  ![v883.toNat, 37]
def k0_off39 (i : grid0.Coords) (c0_i32_443 : BitVec 32) : Fin 2 → Nat :=
  let arg0 : BitVec 32 := BitVec.ofNat 32 (i 0).val
  let c2_i32_442 : BitVec 32 := 2#32
  let v918 : BitVec 32 := Scalar.muli arg0 c2_i32_442
  let v919 : BitVec 32 := Scalar.addi v918 c0_i32_443
  let v920 : Index := Scalar.indexCast v919
  let c38_444 : Index := 38#32
  ![v920.toNat, 38]
def k0_off40 (i : grid0.Coords) (c0_i32_447 : BitVec 32) : Fin 2 → Nat :=
  let arg0 : BitVec 32 := BitVec.ofNat 32 (i 0).val
  let c2_i32_446 : BitVec 32 := 2#32
  let v929 : BitVec 32 := Scalar.muli arg0 c2_i32_446
  let v930 : BitVec 32 := Scalar.addi v929 c0_i32_447
  let v931 : Index := Scalar.indexCast v930
  let c39_448 : Index := 39#32
  ![v931.toNat, 39]
def k0_off41 (i : grid0.Coords) (c0_i32_466 : BitVec 32) : Fin 2 → Nat :=
  let arg0 : BitVec 32 := BitVec.ofNat 32 (i 0).val
  let c2_i32_465 : BitVec 32 := 2#32
  let v966 : BitVec 32 := Scalar.muli arg0 c2_i32_465
  let v967 : BitVec 32 := Scalar.addi v966 c0_i32_466
  let v968 : Index := Scalar.indexCast v967
  let c40_467 : Index := 40#32
  ![v968.toNat, 40]
def k0_off42 (i : grid0.Coords) (c0_i32_470 : BitVec 32) : Fin 2 → Nat :=
  let arg0 : BitVec 32 := BitVec.ofNat 32 (i 0).val
  let c2_i32_469 : BitVec 32 := 2#32
  let v977 : BitVec 32 := Scalar.muli arg0 c2_i32_469
  let v978 : BitVec 32 := Scalar.addi v977 c0_i32_470
  let v979 : Index := Scalar.indexCast v978
  let c41_471 : Index := 41#32
  ![v979.toNat, 41]
def k0_off43 (i : grid0.Coords) (c0_i32_489 : BitVec 32) : Fin 2 → Nat :=
  let arg0 : BitVec 32 := BitVec.ofNat 32 (i 0).val
  let c2_i32_488 : BitVec 32 := 2#32
  let v1014 : BitVec 32 := Scalar.muli arg0 c2_i32_488
  let v1015 : BitVec 32 := Scalar.addi v1014 c0_i32_489
  let v1016 : Index := Scalar.indexCast v1015
  let c42_490 : Index := 42#32
  ![v1016.toNat, 42]
def k0_off44 (i : grid0.Coords) (c0_i32_493 : BitVec 32) : Fin 2 → Nat :=
  let arg0 : BitVec 32 := BitVec.ofNat 32 (i 0).val
  let c2_i32_492 : BitVec 32 := 2#32
  let v1025 : BitVec 32 := Scalar.muli arg0 c2_i32_492
  let v1026 : BitVec 32 := Scalar.addi v1025 c0_i32_493
  let v1027 : Index := Scalar.indexCast v1026
  let c43_494 : Index := 43#32
  ![v1027.toNat, 43]
def k0_off45 (i : grid0.Coords) (c0_i32_512 : BitVec 32) : Fin 2 → Nat :=
  let arg0 : BitVec 32 := BitVec.ofNat 32 (i 0).val
  let c2_i32_511 : BitVec 32 := 2#32
  let v1062 : BitVec 32 := Scalar.muli arg0 c2_i32_511
  let v1063 : BitVec 32 := Scalar.addi v1062 c0_i32_512
  let v1064 : Index := Scalar.indexCast v1063
  let c44_513 : Index := 44#32
  ![v1064.toNat, 44]
def k0_off46 (i : grid0.Coords) (c0_i32_516 : BitVec 32) : Fin 2 → Nat :=
  let arg0 : BitVec 32 := BitVec.ofNat 32 (i 0).val
  let c2_i32_515 : BitVec 32 := 2#32
  let v1073 : BitVec 32 := Scalar.muli arg0 c2_i32_515
  let v1074 : BitVec 32 := Scalar.addi v1073 c0_i32_516
  let v1075 : Index := Scalar.indexCast v1074
  let c45_517 : Index := 45#32
  ![v1075.toNat, 45]
def k0_off47 (i : grid0.Coords) (c0_i32_536 : BitVec 32) : Fin 2 → Nat :=
  let arg0 : BitVec 32 := BitVec.ofNat 32 (i 0).val
  let c2_i32_535 : BitVec 32 := 2#32
  let v1112 : BitVec 32 := Scalar.muli arg0 c2_i32_535
  let v1113 : BitVec 32 := Scalar.addi v1112 c0_i32_536
  let v1114 : Index := Scalar.indexCast v1113
  let c46_537 : Index := 46#32
  ![v1114.toNat, 46]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x6016 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6016 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6016 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S182x47 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S182x47 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S96x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S96x6016 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x47 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S96x1x6016 : Shape := ⟨3, ![96, 1, 6016]⟩
abbrev S23296x6016 : Shape := ⟨2, ![23296, 6016]⟩
abbrev S182x47 : Shape := ⟨2, ![182, 47]⟩
abbrev S96x6016 : Shape := ⟨2, ![96, 6016]⟩
abbrev S96x23296 : Shape := ⟨2, ![96, 23296]⟩
abbrev S96x47 : Shape := ⟨2, ![96, 47]⟩
abbrev S96x47x128 : Shape := ⟨3, ![96, 47, 128]⟩
abbrev S96x47x277 : Shape := ⟨3, ![96, 47, 277]⟩
abbrev S96x47x1 : Shape := ⟨3, ![96, 47, 1]⟩
abbrev S47x96x128 : Shape := ⟨3, ![47, 96, 128]⟩
abbrev S23296x47x128 : Shape := ⟨3, ![23296, 47, 128]⟩
abbrev S47x23296x128 : Shape := ⟨3, ![47, 23296, 128]⟩
abbrev S47x96x23296 : Shape := ⟨3, ![47, 96, 23296]⟩
abbrev S47x182 : Shape := ⟨2, ![47, 182]⟩
abbrev S47x182x1 : Shape := ⟨3, ![47, 182, 1]⟩
abbrev S47x182x128 : Shape := ⟨3, ![47, 182, 128]⟩
abbrev S47x23296 : Shape := ⟨2, ![47, 23296]⟩
abbrev S47x96 : Shape := ⟨2, ![47, 96]⟩
abbrev S47x96x1 : Shape := ⟨3, ![47, 96, 1]⟩
abbrev S47x1x23296 : Shape := ⟨3, ![47, 1, 23296]⟩

abbrev nBuf : Space → Nat
  | .hbm => 9
  | .vmem => 8
  | .smem => 0
  | _ => 0

abbrev bufTy : (tb : Table) → Fin (tcTables nBuf tb) → BufTy
  | .hbm, ⟨0, _⟩ => ⟨S96x1x6016, .bf16⟩
  | .hbm, ⟨1, _⟩ => ⟨S23296x6016, .fp8e4m3⟩
  | .hbm, ⟨2, _⟩ => ⟨S182x47, .f32⟩
  | .hbm, ⟨3, _⟩ => ⟨S23296x6016, .fp8e4m3⟩
  | .hbm, ⟨4, _⟩ => ⟨S182x47, .f32⟩
  | .hbm, ⟨5, _⟩ => ⟨S96x6016, .bf16⟩
  | .hbm, ⟨6, _⟩ => ⟨S96x23296, .bf16⟩
  | .hbm, ⟨7, _⟩ => ⟨S96x6016, .fp8e4m3⟩
  | .hbm, ⟨8, _⟩ => ⟨S96x47, .f32⟩
  | .local _ .vmem, ⟨0, _⟩ => ⟨S96x6016, .bf16⟩
  | .local _ .vmem, ⟨1, _⟩ => ⟨S23296x6016, .fp8e4m3⟩
  | .local _ .vmem, ⟨2, _⟩ => ⟨S182x47, .f32⟩
  | .local _ .vmem, ⟨3, _⟩ => ⟨S23296x6016, .fp8e4m3⟩
  | .local _ .vmem, ⟨4, _⟩ => ⟨S182x47, .f32⟩
  | .local _ .vmem, ⟨5, _⟩ => ⟨S96x23296, .bf16⟩
  | .local _ .vmem, ⟨6, _⟩ => ⟨S96x6016, .fp8e4m3⟩
  | .local _ .vmem, ⟨7, _⟩ => ⟨S96x47, .f32⟩
  | _, _ => ⟨S96x1x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S96x6016 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S23296x6016 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S182x47 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S23296x6016 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S182x47 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x23296 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x6016 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x47 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRuns.lean ====
/- What the kernel's two runs share: the frame from a run, the body's condition, the buffers. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 2 rfl).trans ((hA c 2).trans (V_main_arg3 m c)),
      (Pipeline.RDat.FramePost.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 91 = 0 :=
  (fun t => by
    have ht : t.val < 91 := Nat.lt_of_lt_of_eq t.isLt N_0
    have e0 : (grid0.coords t 0).val = t.val / 1 % 91 := Pipeline.Grid.coords_val t 0 (by decide) rfl
    simp only [cond0_0, k0_cond1, e0]
    word_cmp
   : ∀ t : Fin grid0.N, cond0_0 (grid0.coords t) ↔ t.val % 91 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x6016 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6016 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x6016 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S182x47 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S182x47 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x6016 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x47 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S24x256x256 .fp8e4m3 := Memref.whole cc0_scratch0
abbrev scM0_1 : Memref sig .tc .vmem S128x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Whole
-- ==== Proof.KernelRunA.lean ====
/- The kernel's body at the first point, which quantises and projects. -/
module

public import proofs.«01_k».proof.Proof.KernelRuns

@[expose] public section

set_option maxRecDepth 16384

noncomputable section

namespace Cert.Kernel.Whole

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7388000 in
/-- The body's triple IN CASE A (`scf.if` 0 taken: points 0): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole) (hc0 : cond0_0 i)
    (x0 : Vec F S96x6016 .bf16) (x1 : Vec F S256x6016 .fp8e4m3) (x2 : Vec F S256x6016 .fp8e4m3) (x3 : Vec F S182x47 .f32) (x4 : Vec F S182x47 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_swiglu_fp8 i arg1 harg1 arg2 harg2 arg3 harg3 arg4 harg4 arg5 harg5 arg6 harg6 arg7 harg7 arg8 harg8 arg9 harg9 arg10 harg10) K := by
    intro E K
    simp only [cc0_swiglu_fp8_eq_skeleton]; unfold cc0_swiglu_fp8_skel
    simp only [k0_part129_eq_skeleton, k0_part71_eq_skeleton, k0_part70_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Whole
-- ==== Proof.KernelRunB.lean ====
/- The kernel's body at a later point, which only projects. -/
module

public import proofs.«01_k».proof.Proof.KernelRuns

@[expose] public section

set_option maxRecDepth 16384

noncomputable section

namespace Cert.Kernel.Whole

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4672000 in
/-- The body's triple IN CASE B (`scf.if` 0 not taken: points 1, 2, … 90: 90 of 91): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole) (hc0 : ¬cond0_0 i)
    (x0 : Vec F S96x6016 .bf16) (x1 : Vec F S256x6016 .fp8e4m3) (x2 : Vec F S256x6016 .fp8e4m3) (x3 : Vec F S182x47 .f32) (x4 : Vec F S182x47 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_swiglu_fp8 i arg1 harg1 arg2 harg2 arg3 harg3 arg4 harg4 arg5 harg5 arg6 harg6 arg7 harg7 arg8 harg8 arg9 harg9 arg10 harg10) K := by
    intro E K
    simp only [cc0_swiglu_fp8_eq_skeleton]; unfold cc0_swiglu_fp8_skel
    simp only [k0_part129_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Whole
-- ==== Proof.KernelFrame.lean ====
/- The kernel's frame: its arguments end unchanged and every counter at zero, at any floats. -/
module

public import proofs.«01_k».proof.Proof.KernelRunA
public import proofs.«01_k».proof.Proof.KernelRunB
public import Idealize.ShloMosaic.Lib.Claim

@[expose] public section

set_option maxRecDepth 16384

noncomputable section

namespace Cert.Kernel.Whole

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 91 := lt_of_lt_of_eq t.isLt (show cfg0.N = 91 from N_0)
  by_cases h0 : t.val % 91 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Whole
-- ==== Proof.Stages.lean ====
/- The kernel body cut in two: the quantisation, which runs at the first grid point only, and the projection. -/
module

public import proofs.«01_k».proof.Proof.Gen.KernelIdeal.Skeleton
public import proofs.«01_k».proof.Proof.Gen.KernelIdeal.Frame
public import Idealize.ShloMosaic.Lib.Tactic.OpenCalls
public import Idealize.ShloMosaic.Lib.Tactic.Stretches

@[expose] public section

set_option maxRecDepth 65536

noncomputable section

namespace Cert.KernelIdeal.Stages

open Cert.KernelIdeal Cert.KernelIdeal.Gen Idealize.ShloMosaic Idealize.ShloMosaic.TcCoe

variable {F : FTy → Type} [FloatOps F]

open_calls flat := cc0_swiglu_fp8 [k0_part129, k0_part71]
cut_chain stage := flat at 2

end Cert.KernelIdeal.Stages
-- ==== Proof.Run1.lean ====
/- What the quantisation leaves in the buffers it fills: the run of the body's first stage at the first grid point. -/
module

public import proofs.«01_k».proof.Proof.Stages
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The quantisation's triple: the pieces it stores — the codes, the scales handed out, the weights' block-diagonal
    partner and the scales kept — are found by the run. -/
def run1 (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole) (hc : k0_cond1 i = 1#1)
    (x0 : Vec F S96x6016 .bf16) :
    Σ' (L7 : List (View.Piece (Elt F) S96x6016 .fp8e4m3)) (L8 : List (View.Piece (Elt F) S96x47 .f32)) (L9 : List (View.Piece (Elt F) S24x256x256 .fp8e4m3)), {L10 : List (View.Piece (Elt F) S128x128 .f32) // ∀ (E : Set ℕ) (R : Type) (κ : Prog (TpuEff nD τ sig (Elt F) Λ₀ .tc) R) (K : R → sProp 𝕄),
      iprop(owns (c : Thread nD τ) arg1 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
          ∗ (iprop(owns (c : Thread nD τ) arg1 fullShare x0
              ∗ (∃ f, arg7.view.loc (c : Thread nD τ) ↦[arg7.view.set]{fullShare} arg7.view.writes (Elt F) f L7)
              ∗ (∃ f, arg8.view.loc (c : Thread nD τ) ↦[arg8.view.set]{fullShare} arg8.view.writes (Elt F) f L8)
              ∗ (∃ f, arg9.view.loc (c : Thread nD τ) ↦[arg9.view.set]{fullShare} arg9.view.writes (Elt F) f L9)
              ∗ (∃ f, arg10.view.loc (c : Thread nD τ) ↦[arg10.view.set]{fullShare} arg10.view.writes (Elt F) f L10))
            -∗ wp frame (wpE (defs₀ (F := F)) Variants.none c none) E κ K))
        ⊢ wp frame (wpE (defs₀ (F := F)) Variants.none c none) E (stage1 i arg1 harg1 arg2 harg2 arg3 harg3 arg4 harg4 arg5 harg5 arg6 harg6 arg7 harg7 arg8 harg8 arg9 harg9 arg10 harg10 κ) K} := by
  refine ⟨?_, ?_, ?_, ?_, fun E R κ K => ?run⟩
  case run =>
    unfold stage1
    unfold owns
    iintro ⟨⟨%f1, %hf1, H1⟩, ⟨%d7, %f7, -, H7⟩, ⟨%d8, %f8, -, H8⟩, ⟨%ds0, %fs0, -, HS0⟩, ⟨%ds1, %fs1, -, HS1⟩, Hk⟩
    obtain rfl := harg1.eq_unread hf1
    sl_exec_parts (disch := first | sl_exact hc)
    iapply Hk
    isplitl [H1]
    · iexists _; isplitr; · ipureintro; exact harg1.read_unread _
      iexact H1
    isplitl [H7]
    · iexists _; iexact H7
    isplitl [H8]
    · iexists _; iexact H8
    isplitl [HS0]
    · iexists _; iexact HS0
    iexists _; iexact HS1

end Cert.KernelIdeal.Stages
-- ==== Proof.Quantise.lean ====
/- The quantisation of one group of 128 columns, and the pieces the body's first stage stores: one family over the
   47 groups for each buffer. -/
module

public import proofs.«01_k».proof.Proof.Run1
public import Idealize.ShloMosaic.Lib.Pipeline.ReadBack
public import Idealize.ShloMosaic.Lib.Pipeline.ValueKit.Tiles

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One group -/

/-- The columns of group `g` lie within the activations. -/
theorem inb_x (g : Fin 47) : ∀ a, (![0, 128 * g.val] : Fin 2 → ℕ) a + S96x128.size a ≤ S96x6016.size a := by
  intro a; have := g.isLt; fin_cases a <;> simp [S96x128, S96x6016] <;> omega

/-- Group `g`'s block on the diagonal of its pair lies within the buffer. -/
theorem inb_q (g : Fin 47) : ∀ a, (![g.val / 2, 128 * (g.val % 2), 128 * (g.val % 2)] : Fin 3 → ℕ) a + S1x128x128.size a ≤ S24x256x256.size a := by
  intro a; have := g.isLt; fin_cases a <;> simp [S1x128x128, S24x256x256] <;> omega

/-- Row `g` lies within the scales kept. -/
theorem inb_s (g : Fin 47) : ∀ a, (![g.val, 0] : Fin 2 → ℕ) a + S1x128.size a ≤ S128x128.size a := by
  intro a; have := g.isLt; fin_cases a <;> simp [S1x128, S128x128] <;> omega

/-- The codes of one group, one column per token. -/
def groupCols (x : Vec F S96x128 .bf16) : FVec F S128x128 .f32 := k0_pay12 (k0_pay6 x) (k0_pay8 x) (k0_pay9 x) k0_pay10

/-- The same as the block stored for the products. -/
def groupBlock (x : Vec F S96x128 .bf16) : FVec F S1x128x128 .fp8e4m3 := k0_pay13 (k0_pay6 x) (k0_pay8 x) (k0_pay9 x) k0_pay10

/-- The scales of one group, one per token. -/
def groupScale (x : Vec F S96x128 .bf16) : FVec F S1x128 .f32 := k0_pay14 (k0_pay8 x) (k0_pay9 x) k0_pay10

/-- The codes of one group handed out, one row per token. -/
def groupCodes (x : Vec F S96x128 .bf16) : FVec F S96x128 .fp8e4m3 := k0_pay15 (k0_pay6 x) (k0_pay8 x) (k0_pay9 x) k0_pay10

/-- The columns of group `g`, as the body loads them. -/
def loaded (arg1 : Memref sig .tc .vmem S96x6016 .bf16) (harg1 : arg1.IsWhole) (x0 : Vec F S96x6016 .bf16) (g : Fin 47) : Vec F S96x128 .bf16 :=
  View.readAt (Elt F) arg1.view (Rect.unit (s := S96x6016) ![0, 128 * g.val] S96x128.size (inb_x g)).toLoadRect (harg1.unread x0)

/-- The groups from the last to the first: a list of stores holds the last store first. -/
def back (k : Fin 47) : Fin 47 := ⟨46 - k.val, by omega⟩

/-- The codes' stores. -/
def codesPieces (xs : Fin 47 → Vec F S96x128 .bf16) : List (View.Piece (Elt F) S96x6016 .fp8e4m3) :=
  List.ofFn fun k : Fin 47 => ⟨Rect.unit ![0, 128 * (back k).val] S96x128.size (inb_x (back k)), groupCodes (xs (back k))⟩

/-- The diagonal blocks' stores. -/
def blockPieces (xs : Fin 47 → Vec F S96x128 .bf16) : List (View.Piece (Elt F) S24x256x256 .fp8e4m3) :=
  List.ofFn fun k : Fin 47 => ⟨Rect.unit ![(back k).val / 2, 128 * ((back k).val % 2), 128 * ((back k).val % 2)] S1x128x128.size (inb_q (back k)), groupBlock (xs (back k))⟩

/-- The scales' stores. -/
def scalePieces (xs : Fin 47 → Vec F S96x128 .bf16) : List (View.Piece (Elt F) S128x128 .f32) :=
  List.ofFn fun k : Fin 47 => ⟨Rect.unit ![(back k).val, 0] S1x128.size (inb_s (back k)), groupScale (xs (back k))⟩

section
variable (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole) (hc : k0_cond1 i = 1#1)
    (x0 : Vec F S96x6016 .bf16)

/-- The codes the first stage stores. -/
theorem run1_codes : (run1 c i arg1 harg1 arg2 harg2 arg3 harg3 arg4 harg4 arg5 harg5 arg6 harg6 arg7 harg7 arg8 harg8 arg9 harg9 arg10 harg10 hc x0).1 = codesPieces (loaded arg1 harg1 x0) := by
  sl_kernel_rfl

/-- The scales the first stage keeps: the rows of the 47 groups over a fill with ones. -/
theorem run1_scales : (run1 c i arg1 harg1 arg2 harg2 arg3 harg3 arg4 harg4 arg5 harg5 arg6 harg6 arg7 harg7 arg8 harg8 arg9 harg9 arg10 harg10 hc x0).2.2.2.val
    = scalePieces (loaded arg1 harg1 x0) ++ [⟨Rect.unit ![0, 0] S128x128.size inb_S128x128_S128x128_0_0, k0_pay4⟩] := by
  sl_kernel_rfl

/-- The blocks the first stage stores: the last group's copied to the other half of its pair, over the 47 groups', over
    a fill with zeros. -/
theorem run1_blocks : (run1 c i arg1 harg1 arg2 harg2 arg3 harg3 arg4 harg4 arg5 harg5 arg6 harg6 arg7 harg7 arg8 harg8 arg9 harg9 arg10 harg10 hc x0).2.2.1
    = ⟨Rect.unit ![23, 128, 128] S1x128x128.size inb_S24x256x256_S1x128x128_23_128_128, k0_pay411 (arg9.view.readCov (blockPieces (loaded arg1 harg1 x0) ++ [⟨Rect.unit ![0, 0, 0] S24x256x256.size inb_S24x256x256_S24x256x256_0_0_0, k0_pay3⟩]) (Rect.unit (s := S24x256x256) ![23, 0, 0] S1x128x128.size inb_S24x256x256_S1x128x128_23_0_0).toLoadRect)⟩
      :: (blockPieces (loaded arg1 harg1 x0) ++ [⟨Rect.unit ![0, 0, 0] S24x256x256.size inb_S24x256x256_S24x256x256_0_0_0, k0_pay3⟩]) := by
  sl_kernel_rfl

/-- The scales the first stage hands out: the ones it keeps, one row per token. -/
theorem run1_handed : (run1 c i arg1 harg1 arg2 harg2 arg3 harg3 arg4 harg4 arg5 harg5 arg6 harg6 arg7 harg7 arg8 harg8 arg9 harg9 arg10 harg10 hc x0).2.1
    = [⟨Rect.unit ![0, 0] S96x47.size inb_S96x47_S96x47_0_0, k0_pay410 (arg10.view.readCov (scalePieces (loaded arg1 harg1 x0) ++ [⟨Rect.unit ![0, 0] S128x128.size inb_S128x128_S128x128_0_0, k0_pay4⟩]) (Rect.unit (s := S128x128) ![0, 0] S128x128.size inb_S128x128_S128x128_0_0).toLoadRect)⟩] := by
  sl_kernel_rfl

end

/-! ## What the first stage leaves -/

/-- The columns of group `g`. -/
def cols (x0 : Vec F S96x6016 .bf16) (g : Fin 47) : Vec F S96x128 .bf16 :=
  View.ld x0 (Rect.unit (s := S96x6016) ![0, 128 * g.val] S96x128.size (inb_x g))

theorem loaded_eq (arg1 : Memref sig .tc .vmem S96x6016 .bf16) (harg1 : arg1.IsWhole) (x0 : Vec F S96x6016 .bf16) :
    loaded arg1 harg1 x0 = cols x0 := by
  funext g; rw [loaded, View.readAt_eq_ld, harg1.read_unread, cols]

/-- The codes left. -/
def codesOf (x0 : Vec F S96x6016 .bf16) : Vec F S96x6016 .fp8e4m3 := View.canon (codesPieces (cols x0))

/-- The scales' stores over the fill with ones. -/
def scaleStores (xs : Fin 47 → Vec F S96x128 .bf16) : List (View.Piece (Elt F) S128x128 .f32) :=
  scalePieces xs ++ [⟨Rect.unit ![0, 0] S128x128.size inb_S128x128_S128x128_0_0, k0_pay4⟩]

/-- The scales kept. -/
def scalesOf (x0 : Vec F S96x6016 .bf16) : Vec F S128x128 .f32 := View.canon (scaleStores (cols x0))

/-- The blocks' stores over the fill with zeros. -/
def blockStores (xs : Fin 47 → Vec F S96x128 .bf16) : List (View.Piece (Elt F) S24x256x256 .fp8e4m3) :=
  blockPieces xs ++ [⟨Rect.unit ![0, 0, 0] S24x256x256.size inb_S24x256x256_S24x256x256_0_0_0, k0_pay3⟩]

/-- The last group's block stored again in the other half of its pair. -/
def lastStore (xs : Fin 47 → Vec F S96x128 .bf16) : View.Piece (Elt F) S24x256x256 .fp8e4m3 :=
  ⟨Rect.unit ![23, 128, 128] S1x128x128.size inb_S24x256x256_S1x128x128_23_128_128,
    k0_pay411 (View.ld (View.canon (blockStores xs)) (Rect.unit (s := S24x256x256) ![23, 0, 0] S1x128x128.size inb_S24x256x256_S1x128x128_23_0_0))⟩

/-- The quantised activations kept, block-diagonal pair by pair. -/
def blocksOf (x0 : Vec F S96x6016 .bf16) : Vec F S24x256x256 .fp8e4m3 := View.canon (lastStore (cols x0) :: blockStores (cols x0))

/-- The scales handed out. -/
def handedOf (x0 : Vec F S96x6016 .bf16) : Vec F S96x47 .f32 :=
  View.canon [(⟨Rect.unit ![0, 0] S96x47.size inb_S96x47_S96x47_0_0,
    k0_pay410 (View.ld (scalesOf x0) (Rect.unit (s := S128x128) ![0, 0] S128x128.size inb_S128x128_S128x128_0_0))⟩ : View.Piece (Elt F) S96x47 .f32)]

theorem codesPieces_cover (xs : Fin 47 → Vec F S96x128 .bf16) (y : S96x6016.Idx) : ∃ p ∈ codesPieces xs, y ∈ p.1.set := by
  have h1 : (y 1).val < 6016 := (y 1).isLt
  have h0 : (y 0).val < 96 := (y 0).isLt
  have hk : 46 - (y 1).val / 128 < 47 := by omega
  refine ⟨_, List.mem_ofFn.mpr ⟨⟨46 - (y 1).val / 128, hk⟩, rfl⟩, ?_⟩
  refine (Rect.mem_set_unit (inb := inb_x _)).mpr fun a => ?_
  fin_cases a <;> simp [back, S96x128] <;> omega

/-- A list whose first store fills the array covers it. -/
theorem cover_fill {S : Shape} {e : EltTy} (L : List (View.Piece (Elt F) S e)) {off : Fin S.rank → ℕ} (inb) (w : S.Idx → Elt F e)
    (h : off = fun _ => 0) (y : S.Idx) : ∃ p ∈ L ++ [(⟨Rect.unit off S.size inb, w⟩ : View.Piece (Elt F) S e)], y ∈ p.1.set :=
  ⟨_, List.mem_append_right _ (List.mem_singleton_self _), View.mem_set_unit_zero h inb y⟩

theorem scaleStores_cover (xs : Fin 47 → Vec F S96x128 .bf16) (y : S128x128.Idx) : ∃ p ∈ scaleStores xs, y ∈ p.1.set :=
  cover_fill _ _ _ (by decide) y

theorem blockStores_cover (xs : Fin 47 → Vec F S96x128 .bf16) (y : S24x256x256.Idx) : ∃ p ∈ lastStore xs :: blockStores xs, y ∈ p.1.set := by
  obtain ⟨p, hp, h⟩ := cover_fill (blockPieces xs) inb_S24x256x256_S24x256x256_0_0_0 k0_pay3 (by decide) y
  exact ⟨p, List.mem_cons_of_mem _ hp, h⟩

section
variable (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole) (hc : k0_cond1 i = 1#1)
    (x0 : Vec F S96x6016 .bf16)

/-- What the first stage leaves, read through any buffer holding it whole. -/
theorem run1_codes_canon (f) : arg7.view.read (Elt F) (arg7.view.writes (Elt F) f (run1 c i arg1 harg1 arg2 harg2 arg3 harg3 arg4 harg4 arg5 harg5 arg6 harg6 arg7 harg7 arg8 harg8 arg9 harg9 arg10 harg10 hc x0).1) = codesOf x0 := by
  rw [run1_codes, loaded_eq, View.read_writes_eq_canon _ _ _ (codesPieces_cover _)]; rfl

theorem run1_scales_canon (f) : arg10.view.read (Elt F) (arg10.view.writes (Elt F) f (run1 c i arg1 harg1 arg2 harg2 arg3 harg3 arg4 harg4 arg5 harg5 arg6 harg6 arg7 harg7 arg8 harg8 arg9 harg9 arg10 harg10 hc x0).2.2.2.val) = scalesOf x0 := by
  rw [run1_scales, loaded_eq]; exact View.read_writes_eq_canon _ _ _ (scaleStores_cover _)

theorem run1_blocks_canon (f) : arg9.view.read (Elt F) (arg9.view.writes (Elt F) f (run1 c i arg1 harg1 arg2 harg2 arg3 harg3 arg4 harg4 arg5 harg5 arg6 harg6 arg7 harg7 arg8 harg8 arg9 harg9 arg10 harg10 hc x0).2.2.1) = blocksOf x0 := by
  rw [run1_blocks, loaded_eq, View.readCov_eq_canon']; exact View.read_writes_eq_canon _ _ _ (blockStores_cover _)

theorem run1_handed_canon (f) : arg8.view.read (Elt F) (arg8.view.writes (Elt F) f (run1 c i arg1 harg1 arg2 harg2 arg3 harg3 arg4 harg4 arg5 harg5 arg6 harg6 arg7 harg7 arg8 harg8 arg9 harg9 arg10 harg10 hc x0).2.1) = handedOf x0 := by
  rw [run1_handed, loaded_eq, View.readCov_eq_canon']
  exact View.read_writes_eq_canon _ _ _ fun y => ⟨_, List.mem_singleton_self _, View.mem_set_unit_zero (by decide) inb_S96x47_S96x47_0_0 y⟩

end

end Cert.KernelIdeal.Stages
-- ==== Proof.Exponent.lean ====
/- The exponent of a group's scale, counted by the kernel over the 256 powers of two that a word's exponent field
   names, and searched by the reference over the exponents: the two agree, and so do the scales made of them. -/
module

public import Idealize.ShloMosaic.Lib.Pointwise
public import Idealize.ShloMosaic.Lib.IdealHost
public import Mathlib.Algebra.Order.Archimedean.Basic

@[expose] public section

set_option maxRecDepth 16384

noncomputable section

namespace Cert.Exponent

open Idealize.ShloMosaic

/-- The constant that a group's largest magnitude is multiplied by: 1/448 rounded to f32. -/
abbrev unit : EReal := Ideal.ofBits .f32 0x3B124925#32

/-- The word whose exponent field is `b` and whose other bits are zero. -/
abbrev field (b : BitVec 32) : EReal := Ideal.ofBits .f32 (IntOp.shli .vector b 23#32)

/-- The kernel's biased exponent of `v`: how many of the 256 fields' words are at most `v`, less one. -/
def biased (v : EReal) : BitVec 32 :=
  IntOp.subi (Finset.fold IntOp.addi (0#32) (fun p : Fin 256 => if v < field (BitVec.ofNat 32 p.val) then 0#32 else 1#32) Finset.univ) 1#32

/-- The kernel's exponent of a group whose largest magnitude times the unit is `v`. -/
def counted (v : EReal) : BitVec 32 :=
  Scalar.select (IntOp.ori (BitVec.ofBool (decide (v = 0))) (IntOp.cmpi .eq (biased v) 255#32)) 0#32 (IntOp.subi (biased v) 126#32)

/-- The kernel's scale, and its inverse. -/
def scale (v : EReal) : EReal := field (IntOp.addi (counted v) 127#32)
def inverse (v : EReal) : EReal := field (IntOp.subi 127#32 (counted v))

/-- The reference's exponent of a group whose largest magnitude is `a`: the least `k` with `a · unit < 2^k`, and 0 for a zero and an
    infinite magnitude. -/
def searched (a : EReal) : EReal :=
  if a = 0 ∨ a = Ideal.ofBits .f32 0x7F800000#32 then 0 else
    Finset.fold min (Ideal.ofBits .f32 0x7F800000#32)
      (fun p : Fin 277 => if a * unit < FloatOps.exp2 (F := Ideal) (φ := .f32) (FloatOps.sitofp .f32 (IntOp.subi (BitVec.ofNat 32 p.val) 148#32))
        then FloatOps.sitofp (F := Ideal) .f32 (IntOp.subi (BitVec.ofNat 32 p.val) 148#32) else Ideal.ofBits .f32 0x7F800000#32) Finset.univ

/-- Over 448, at least 2^-127 and below 2^126. -/
def Inside (a : EReal) : Prop := Ideal.ofBits .f32 0x00400000#32 ≤ a * unit ∧ a * unit < Ideal.ofBits .f32 0x7E800000#32

/-- What the claim asks of a group's largest magnitude. -/
def Fits (a : EReal) : Prop := (a = 0 ∨ a = Ideal.ofBits .f32 0x7F800000#32) ∨ Inside a

/-! ## The words -/

theorem unit_eq : unit = ((9586981 / 4294967296 : ℝ) : EReal) := by
  simp [unit, Ideal.ofBits, Ideal.ieee, -EReal.coe_mul]; norm_num
theorem lower_eq : Ideal.ofBits .f32 0x00400000#32 = (((2 : ℝ) ^ (-127 : ℤ) : ℝ) : EReal) := by
  simp [Ideal.ofBits, Ideal.ieee, -EReal.coe_mul]; norm_num
theorem inf_eq : Ideal.ofBits .f32 0x7F800000#32 = (⊤ : EReal) := by
  simp [Ideal.ofBits, Ideal.ieee]

theorem word_fields : ∀ p : Fin 256, ((IntOp.shli .vector (BitVec.ofNat 32 p.val) 23#32).extractLsb' 31 1 == 1#1) = false
    ∧ ((IntOp.shli .vector (BitVec.ofNat 32 p.val) 23#32).extractLsb' 23 8).toNat = p.val
    ∧ ((IntOp.shli .vector (BitVec.ofNat 32 p.val) 23#32).extractLsb' 0 23).toNat = 0 := by decide +kernel

/-- A normal field's word is a power of two. -/
theorem field_normal (p : ℕ) (h1 : 1 ≤ p) (h2 : p ≤ 254) : field (BitVec.ofNat 32 p) = (((2 : ℝ) ^ ((p : ℤ) - 127) : ℝ) : EReal) := by
  obtain ⟨a, b, c⟩ := word_fields ⟨p, by omega⟩
  dsimp only at a b c
  unfold field Ideal.ofBits Ideal.ieee
  simp only [Nat.reduceAdd, a, b, c]
  rw [if_neg (by omega), if_neg (by omega)]
  norm_num
  rw [show (p : ℤ) - 127 - 23 = ((p : ℤ) - 127) + (-23) by ring, zpow_add₀ (by norm_num : (2 : ℝ) ≠ 0)]
  norm_num
  rw [← EReal.coe_mul, ← EReal.coe_mul, EReal.coe_eq_coe_iff]
  ring

theorem upper_eq : Ideal.ofBits .f32 0x7E800000#32 = (((2 : ℝ) ^ (126 : ℤ) : ℝ) : EReal) := by
  have h := field_normal 253 (by omega) (by omega)
  rw [show ((253 : ℕ) : ℤ) - 127 = 126 by norm_num] at h
  exact h

theorem field_zero : field (BitVec.ofNat 32 0) = 0 := by
  obtain ⟨a, b, c⟩ := word_fields ⟨0, by omega⟩
  dsimp only at a b c
  unfold field Ideal.ofBits Ideal.ieee
  simp only [Nat.reduceAdd, a, b, c]
  norm_num

theorem field_top : field (BitVec.ofNat 32 255) = ⊤ := by
  obtain ⟨a, b, c⟩ := word_fields ⟨255, by omega⟩
  dsimp only at a b c
  unfold field Ideal.ofBits Ideal.ieee
  simp only [Nat.reduceAdd, a, b, c]
  norm_num

/-! ## The two searches -/

/-- A count of the indices below `N`. -/
theorem count_below (N : ℕ) (hN : N ≤ 256) :
    Finset.fold IntOp.addi (0#32) (fun p : Fin 256 => if N ≤ p.val then 0#32 else 1#32) Finset.univ = BitVec.ofNat 32 N := by
  have h : ∀ s : Finset (Fin 256), Finset.fold IntOp.addi (0#32) (fun p : Fin 256 => if N ≤ p.val then 0#32 else 1#32) s
      = BitVec.ofNat 32 (s.filter fun p => ¬ N ≤ p.val).card := by
    intro s
    induction s using Finset.induction_on with
    | empty => rfl
    | insert a s ha ih =>
      rw [Finset.fold_insert ha, ih, Finset.filter_insert]
      by_cases hp : N ≤ a.val
      · rw [if_pos hp, if_neg (not_not.mpr hp)]; exact BitVec.zero_add _
      · rw [if_neg hp, if_pos hp, Finset.card_insert_of_notMem (fun h => ha (Finset.mem_filter.mp h).1)]
        show 1#32 + _ = _
        rw [BitVec.add_comm, BitVec.ofNat_add]
  rw [h]
  congr 1
  rw [show (Finset.univ.filter fun p : Fin 256 => ¬ N ≤ p.val) = Finset.univ.filter fun p : Fin 256 => p.val < N by
    ext p; simp]
  exact (Fin.card_filter_val_lt).trans (by omega)

theorem exponent_words : ∀ p : Fin 277, (IntOp.subi (BitVec.ofNat 32 p.val) 148#32).toInt = (p.val : ℤ) - 148 := by decide +kernel

/-- The powers of two over the reals, as the reference's exponential gives them. -/
theorem exp2_int (k : ℤ) : FloatOps.exp2 (F := Ideal) (φ := .f32) (((k : ℝ) : EReal)) = (((2 : ℝ) ^ k : ℝ) : EReal) := by
  show Ideal.exp2 _ = _
  rw [Ideal.exp2_coe]
  congr 1
  exact Real.rpow_intCast 2 k

theorem zero_case : scale (0 * unit) = FloatOps.exp2 (F := Ideal) (φ := .f32) (searched 0)
    ∧ inverse (0 * unit) = FloatOps.exp2 (F := Ideal) (φ := .f32) (0 - searched 0) := by
  have hc : counted 0 = 0#32 := by
    unfold counted
    rw [show decide ((0 : EReal) = 0) = true from by simp]
    generalize IntOp.cmpi .eq (biased 0) 255#32 = w
    have : ∀ w : BitVec 1, IntOp.ori (BitVec.ofBool true) w = 1#1 := by decide
    rw [this]; rfl
  have hs : searched 0 = ((0 : ℤ) : ℝ) := by unfold searched; rw [if_pos (.inl rfl)]; norm_num
  have h127 := field_normal 127 (by omega) (by omega)
  rw [zero_mul, scale, inverse, hc, hs]
  refine ⟨?_, ?_⟩
  · rw [exp2_int]; exact h127
  · rw [show (0 : EReal) - (((0 : ℤ) : ℝ) : EReal) = (((0 : ℤ) : ℝ) : EReal) by norm_num, exp2_int]; exact h127

/-- An infinite magnitude scales by one, as a zero one does. -/
theorem infinite_case : scale (⊤ * unit) = FloatOps.exp2 (F := Ideal) (φ := .f32) (searched ⊤)
    ∧ inverse (⊤ * unit) = FloatOps.exp2 (F := Ideal) (φ := .f32) (0 - searched ⊤) := by
  have ht : (⊤ : EReal) * unit = ⊤ := by rw [unit_eq]; exact EReal.top_mul_coe_of_pos (by norm_num)
  have hb : biased ⊤ = 255#32 := by
    unfold biased
    have e : (fun p : Fin 256 => if (⊤ : EReal) < field (BitVec.ofNat 32 p.val) then 0#32 else 1#32) = fun p : Fin 256 => if 256 ≤ p.val then 0#32 else 1#32 := by
      funext p
      rw [if_neg not_top_lt, if_neg (by omega)]
    rw [e, count_below 256 le_rfl]
    rfl
  have hc : counted ⊤ = 0#32 := by
    unfold counted
    rw [hb, decide_eq_false EReal.top_ne_zero]
    rfl
  have hs : searched ⊤ = ((0 : ℤ) : ℝ) := by unfold searched; rw [if_pos (.inr inf_eq.symm)]; norm_num
  have h127 := field_normal 127 (by omega) (by omega)
  rw [ht, scale, inverse, hc, hs]
  refine ⟨?_, ?_⟩
  · rw [exp2_int]; exact h127
  · rw [show (0 : EReal) - (((0 : ℤ) : ℝ) : EReal) = (((0 : ℤ) : ℝ) : EReal) by norm_num, exp2_int]; exact h127

/-- A magnitude inside lies in the binade of one exponent. -/
theorem binade {a : EReal} (h : Inside a) :
    ∃ (r : ℝ) (n : ℤ), a * unit = (r : EReal) ∧ a ≠ 0 ∧ a ≠ ⊤ ∧ r ≠ 0 ∧ (∀ k : ℤ, r < (2 : ℝ) ^ k ↔ n < k) ∧ -127 ≤ n ∧ n ≤ 125 := by
  obtain ⟨h1, h2⟩ := h
  rw [lower_eq] at h1
  rw [upper_eq] at h2
  induction a with
  | bot => rw [unit_eq, EReal.bot_mul_coe_of_pos (by norm_num)] at h1; exact absurd h1 (not_le.mpr (EReal.bot_lt_coe _))
  | top => rw [unit_eq, EReal.top_mul_coe_of_pos (by norm_num)] at h2; exact absurd h2 not_top_lt
  | coe a =>
    rw [unit_eq, ← EReal.coe_mul] at h1 h2 ⊢
    rw [EReal.coe_le_coe_iff] at h1
    rw [EReal.coe_lt_coe_iff] at h2
    have h0 : (0 : ℝ) < a * (9586981 / 4294967296) := lt_of_lt_of_le (by positivity) h1
    obtain ⟨n, hn1, hn2⟩ := exists_mem_Ico_zpow h0 (one_lt_two : (1 : ℝ) < 2)
    have hk : ∀ k : ℤ, a * (9586981 / 4294967296) < (2 : ℝ) ^ k ↔ n < k := fun k =>
      ⟨fun h => (zpow_lt_zpow_iff_right₀ (one_lt_two : (1 : ℝ) < 2)).mp (lt_of_le_of_lt hn1 h),
       fun h => lt_of_lt_of_le hn2 (zpow_le_zpow_right₀ (one_lt_two : (1 : ℝ) < 2).le (by omega))⟩
    refine ⟨_, n, rfl, ?_, EReal.coe_ne_top _, h0.ne', hk, ?_, ?_⟩
    · intro h; rw [EReal.coe_eq_zero] at h; rw [h, zero_mul] at h0; exact lt_irrefl _ h0
    · by_contra hneg
      exact absurd ((hk (-127)).mpr (by omega)) (not_lt.mpr h1)
    · have := (hk 126).mp h2; omega

theorem inside_case {a : EReal} (h : Inside a) :
    scale (a * unit) = FloatOps.exp2 (F := Ideal) (φ := .f32) (searched a)
    ∧ inverse (a * unit) = FloatOps.exp2 (F := Ideal) (φ := .f32) (0 - searched a) := by
  obtain ⟨r, n, hr, ha, hat, hr0, hk, hlo, hhi⟩ := binade h
  obtain ⟨N, hN⟩ : ∃ N : ℕ, (N : ℤ) = n + 128 := ⟨(n + 128).toNat, by omega⟩
  have hcmp : ∀ p : Fin 256, (r : EReal) < field (BitVec.ofNat 32 p.val) ↔ N ≤ p.val := by
    intro p
    have hp := p.isLt
    by_cases p0 : p.val = 0
    · rw [p0, field_zero, ← EReal.coe_zero, EReal.coe_lt_coe_iff]
      have : (0 : ℝ) ≤ r := by
        by_contra hneg
        have := (hk (-200)).mp (lt_trans (not_le.mp hneg) (by positivity)); omega
      exact ⟨fun h => absurd h (not_lt.mpr this), fun h => by omega⟩
    by_cases p255 : p.val = 255
    · rw [p255, field_top]; exact ⟨fun _ => by omega, fun _ => EReal.coe_lt_top _⟩
    · rw [field_normal p.val (by omega) (by omega), EReal.coe_lt_coe_iff, hk]; omega
  have hb : biased (r : EReal) = BitVec.ofNat 32 (N - 1) := by
    unfold biased
    simp only [hcmp]
    rw [count_below N (by omega)]
    show BitVec.ofNat 32 N - 1#32 = _
    obtain ⟨M, rfl⟩ : ∃ M, N = M + 1 := ⟨N - 1, by omega⟩
    rw [BitVec.ofNat_add, BitVec.add_sub_cancel]; rfl
  have hN1 : N - 1 ≤ 252 := by omega
  have hc : counted (r : EReal) = IntOp.subi (BitVec.ofNat 32 (N - 1)) 126#32 := by
    unfold counted
    rw [hb, decide_eq_false (fun h => hr0 (EReal.coe_eq_zero.mp h))]
    have hne : ∀ q : Fin 253, IntOp.ori (BitVec.ofBool false) (IntOp.cmpi .eq (BitVec.ofNat 32 q.val) 255#32) = 0#1 := by decide +kernel
    rw [hne ⟨N - 1, by omega⟩]; rfl
  have words : ∀ q : Fin 253, IntOp.addi (IntOp.subi (BitVec.ofNat 32 q.val) 126#32) 127#32 = BitVec.ofNat 32 (q.val + 1)
      ∧ IntOp.subi 127#32 (IntOp.subi (BitVec.ofNat 32 q.val) 126#32) = BitVec.ofNat 32 (253 - q.val) := by decide +kernel
  obtain ⟨w1, w2⟩ := words ⟨N - 1, by omega⟩
  dsimp only at w1 w2
  have hs : searched a = (((n + 1 : ℤ) : ℝ) : EReal) := by
    unfold searched
    rw [if_neg (not_or.mpr ⟨ha, by rw [inf_eq]; exact hat⟩)]
    have term : ∀ p : Fin 277, (if a * unit < FloatOps.exp2 (F := Ideal) (φ := .f32) (FloatOps.sitofp .f32 (IntOp.subi (BitVec.ofNat 32 p.val) 148#32))
        then FloatOps.sitofp (F := Ideal) .f32 (IntOp.subi (BitVec.ofNat 32 p.val) 148#32) else (⊤ : EReal))
        = if n < (p.val : ℤ) - 148 then ((((p.val : ℤ) - 148 : ℤ) : ℝ) : EReal) else ⊤ := by
      intro p
      rw [show FloatOps.sitofp (F := Ideal) .f32 (IntOp.subi (BitVec.ofNat 32 p.val) 148#32) = ((((p.val : ℤ) - 148 : ℤ) : ℝ) : EReal) from by
        rw [← exponent_words p]; rfl, exp2_int, hr]
      simp only [EReal.coe_lt_coe_iff, hk]
    simp only [inf_eq]
    rw [Finset.fold_congr fun p _ => term p]
    apply le_antisymm
    · rw [Finset.fold_min_le]
      obtain ⟨q, hq⟩ : ∃ q : ℕ, (q : ℤ) = n + 149 := ⟨(n + 149).toNat, by omega⟩
      refine .inr ⟨⟨q, by omega⟩, Finset.mem_univ _, ?_⟩
      dsimp only
      rw [if_pos (by omega), EReal.coe_le_coe_iff, Int.cast_le]; omega
    · rw [Finset.le_fold_min]
      refine ⟨le_top, fun p _ => ?_⟩
      split
      · rw [EReal.coe_le_coe_iff, Int.cast_le]; omega
      · exact le_top
  rw [hr, hs, scale, inverse, hc, w1, w2, exp2_int,
    show (0 : EReal) - (((n + 1 : ℤ) : ℝ) : EReal) = (((-(n + 1) : ℤ) : ℝ) : EReal) by
      rw [← EReal.coe_zero, ← EReal.coe_sub]; norm_num, exp2_int]
  refine ⟨?_, ?_⟩
  · rw [show N - 1 + 1 = N by omega, field_normal N (by omega) (by omega)]; congr 2; omega
  · rw [field_normal (253 - (N - 1)) (by omega) (by omega)]; congr 2; omega

/-- For a magnitude that fits, the kernel's scale and its inverse are the reference's. -/
theorem agree {a : EReal} (h : Fits a) :
    scale (a * unit) = FloatOps.exp2 (F := Ideal) (φ := .f32) (searched a)
    ∧ inverse (a * unit) = FloatOps.exp2 (F := Ideal) (φ := .f32) (0 - searched a) := by
  rcases h with (rfl | h) | h
  · exact zero_case
  · rw [h, inf_eq]; exact infinite_case
  · exact inside_case h

end Cert.Exponent
-- ==== Proof.Group.lean ====
/- The quantiser of one group, entry by entry, at the real values. -/
module
public import proofs.«01_k».proof.Proof.Quantise
public import proofs.«01_k».proof.Proof.Exponent
public import Idealize.ShloMosaic.Lib.Pointwise
@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The largest magnitude of a token's entries in one group. -/
def groupPeak (x : Vec Ideal S96x128 .bf16) (t : Fin 96) : EReal :=
  Finset.fold max (Ideal.ofBits FTy.f32 4286578688#32) (fun k : Fin 128 => FloatOps.absf (F := Ideal) (φ := .f32) (x (ix2 t k))) Finset.univ

theorem pay7_at (x : Vec Ideal S96x128 .bf16) (t : Fin 96) :
    k0_pay7 (F := Ideal) x (ix2 0 ⟨t.val, by omega⟩ : S1x128.Idx) = groupPeak x t * Exponent.unit := by
  pointwise [k0_pay7, k0_pay6, k0_pay5, multiReduction_maximumf_eq_fold]
  rfl

theorem pay8_at (x : Vec Ideal S96x128 .bf16) (t : Fin 96) :
    k0_pay8 (F := Ideal) x (ix2 0 ⟨t.val, by omega⟩ : S1x128.Idx) = Exponent.biased (groupPeak x t * Exponent.unit) := by
  pointwise [k0_pay8, multiReductionI_eq_fold]
  unfold Exponent.biased Exponent.field
  rw [← pay7_at x t]
  exact congrArg (IntOp.subi · 1#32) (Finset.fold_congr fun p _ => if_congr Iff.rfl rfl rfl)

theorem pay9_at (x : Vec Ideal S96x128 .bf16) (t : Fin 96) :
    k0_pay9 (F := Ideal) x (ix2 0 ⟨t.val, by omega⟩ : S1x128.Idx)
      = IntOp.ori (BitVec.ofBool (decide (groupPeak x t * Exponent.unit = 0))) (IntOp.cmpi .eq (Exponent.biased (groupPeak x t * Exponent.unit)) 255#32) := by
  pointwise [k0_pay9]
  rw [pay7_at, pay8_at]

theorem pay10_at (t : Fin 96) : k0_pay10 (ix2 0 ⟨t.val, by omega⟩ : S1x128.Idx) = 126#32 := by
  pointwise [k0_pay10]

theorem groupScale_at (x : Vec Ideal S96x128 .bf16) (t : Fin 96) :
    groupScale (F := Ideal) x (ix2 0 ⟨t.val, by omega⟩ : S1x128.Idx) = Exponent.scale (groupPeak x t * Exponent.unit) := by
  unfold groupScale
  pointwise [k0_pay14, k0_pay11]
  rw [pay8_at, pay9_at, pay10_at]
  rfl

/-- The code of an entry, of the inverse of its group's scale. -/
def codeBy (inv e : EReal) : EReal := min (Ideal.ofBits FTy.f32 1138753536#32) (max (Ideal.ofBits FTy.f32 3286237184#32) (e * inv))

theorem pay12_at (x : Vec Ideal S96x128 .bf16) (t : Fin 96) (j : Fin 128) :
    k0_pay12 (F := Ideal) (k0_pay6 x) (k0_pay8 x) (k0_pay9 x) k0_pay10 (ix2 j ⟨t.val, by omega⟩ : S128x128.Idx) = codeBy (Exponent.inverse (groupPeak x t * Exponent.unit)) (x (ix2 t j)) := by
  pointwise [k0_pay12, k0_pay6, k0_pay11]
  rw [pay8_at, pay9_at, pay10_at]
  rfl

theorem groupCodes_at (x : Vec Ideal S96x128 .bf16) (t : Fin 96) (j : Fin 128) :
    groupCodes (F := Ideal) x (ix2 t j : S96x128.Idx) = codeBy (Exponent.inverse (groupPeak x t * Exponent.unit)) (x (ix2 t j)) := by
  rw [← pay12_at]
  pointwise [groupCodes, k0_pay15]

theorem groupBlock_at (x : Vec Ideal S96x128 .bf16) (t : Fin 96) (j : Fin 128) :
    groupBlock (F := Ideal) x (ix3 0 j ⟨t.val, by omega⟩ : S1x128x128.Idx) = codeBy (Exponent.inverse (groupPeak x t * Exponent.unit)) (x (ix2 t j)) := by
  rw [← pay12_at]
  pointwise [groupBlock, k0_pay13]

end Cert.KernelIdeal.Stages
-- ==== Proof.Kept.lean ====
/- What the first stage leaves, entry by entry: the codes and scales of every token and group, and the block-diagonal
   codes the products read. -/
module

public import proofs.«01_k».proof.Proof.Group

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Where a store of the list's first part holds an index, the earlier stores do not matter; -/
theorem canon_append_eq {S : Shape} {e : EltTy} (L' : List (View.Piece (Elt Ideal) S e)) : ∀ (L : List (View.Piece (Elt Ideal) S e)) (y : S.Idx) (v : Elt Ideal e),
    (∃ p ∈ L, y ∈ p.1.set) → View.AllAt L y v → View.canon (L ++ L') y = v
  | [], _, _, hc, _ => by obtain ⟨p, hp, _⟩ := hc; exact absurd hp List.not_mem_nil
  | p :: L, y, v, hc, h => by
    by_cases hm : y ∈ p.1.set
    · obtain ⟨x, rfl⟩ := p.1.exists_idx_of_mem hm
      rw [List.cons_append, show p.1.idx x = p.1.emb x from rfl, View.canon_cons_emb]
      exact h p List.mem_cons_self x rfl
    · rw [List.cons_append, View.canon_cons_of_not_mem _ _ hm]
      refine canon_append_eq L' L y v ?_ fun q hq => h q (List.mem_cons_of_mem _ hq)
      obtain ⟨q, hq, hyq⟩ := hc
      rcases List.mem_cons.mp hq with rfl | hq'
      · exact absurd hyq hm
      · exact ⟨q, hq', hyq⟩

/-- where none does, only they matter. -/
theorem canon_append_of_not_mem {S : Shape} {e : EltTy} (L' : List (View.Piece (Elt Ideal) S e)) : ∀ (L : List (View.Piece (Elt Ideal) S e)) (y : S.Idx),
    (∀ p ∈ L, y ∉ p.1.set) → View.canon (L ++ L') y = View.canon L' y
  | [], _, _ => rfl
  | p :: L, y, h => by
    rw [List.cons_append, View.canon_cons_of_not_mem _ _ (h p List.mem_cons_self)]
    exact canon_append_of_not_mem L' L y fun q hq => h q (List.mem_cons_of_mem _ hq)

variable (x0 : Vec Ideal S96x6016 .bf16)

/-- Column `k` of group `g`. -/
def at_ (g : Fin 47) (k : Fin 128) : Fin 6016 := ⟨128 * g.val + k.val, by omega⟩

/-- The largest magnitude of token `t` in group `g`. -/
def peak (t : Fin 96) (g : Fin 47) : EReal := groupPeak (cols x0 g) t

/-- The inverse of the scale, the scale, and the code of one entry. -/
def invAt (t : Fin 96) (g : Fin 47) : EReal := Exponent.inverse (peak x0 t g * Exponent.unit)
def scaleOf (t : Fin 96) (g : Fin 47) : EReal := Exponent.scale (peak x0 t g * Exponent.unit)
def code (t : Fin 96) (g : Fin 47) (k : Fin 128) : EReal := codeBy (invAt x0 t g) (x0 (ix2 t (at_ g k)))

theorem cols_at (t : Fin 96) (g : Fin 47) (k : Fin 128) : cols x0 g (ix2 t k : S96x128.Idx) = x0 (ix2 t (at_ g k)) := by
  refine View.ld_unit_apply_of _ _ _ _ _ _ fun a => ?_
  fin_cases a
  · exact (Nat.zero_add _).symm
  · rfl

theorem peak_eq (t : Fin 96) (g : Fin 47) : peak x0 t g = Finset.fold max (Ideal.ofBits FTy.f32 4286578688#32)
    (fun k : Fin 128 => FloatOps.absf (F := Ideal) (φ := .f32) (x0 (ix2 t (at_ g k)))) Finset.univ := by
  unfold peak groupPeak
  exact Finset.fold_congr fun k _ => by rw [cols_at]

theorem codesOf_at (t : Fin 96) (g : Fin 47) (k : Fin 128) : codesOf x0 (ix2 t (at_ g k) : S96x6016.Idx) = code x0 t g k := by
  have hg := g.isLt
  have hk := k.isLt
  unfold codesOf codesPieces
  refine View.canon_ofFn_unit_eq_of_forall _ _ _ _ _ _ ⟨back g, fun a => ?_⟩ fun n x hx => ?_
  · fin_cases a
    · exact ⟨Nat.zero_le _, by have := t.isLt; simp [S96x128]⟩
    · have : (back (back g)).val = g.val := by simp only [back]; omega
      simp only [S96x128]
      show 128 * (back (back g)).val ≤ 128 * g.val + k.val ∧ 128 * g.val + k.val < 128 * (back (back g)).val + 128
      omega
  · have h0 : t.val = 0 + (x 0).val := hx 0
    have h1 : 128 * g.val + k.val = 128 * (back n).val + (x 1).val := hx 1
    have l1 : (x 1).val < 128 := (x 1).isLt
    have hn : back n = g := Fin.ext (by omega)
    have hx' : x = (ix2 t k : S96x128.Idx) := by
      funext a; fin_cases a
      · exact Fin.ext (show (x 0).val = t.val by omega)
      · exact Fin.ext (show (x 1).val = k.val by rw [hn] at h1; omega)
    rw [hn, hx', groupCodes_at, cols_at]
    rfl

theorem scalesOf_at (t : Fin 96) (g : Fin 47) : scalesOf x0 (ix2 ⟨g.val, by omega⟩ ⟨t.val, by omega⟩ : S128x128.Idx) = scaleOf x0 t g := by
  have hg := g.isLt
  have ht := t.isLt
  unfold scalesOf scaleStores
  have key : ∀ (n : Fin 47) (x : S1x128.Idx), (∀ a, ((ix2 ⟨g.val, by omega⟩ ⟨t.val, by omega⟩ : S128x128.Idx) a).val = (![(back n).val, 0] : Fin 2 → ℕ) a + (x a).val) →
      groupScale (cols x0 (back n)) x = scaleOf x0 t g := by
    intro n x hx
    have h0 : g.val = (back n).val + (x 0).val := hx 0
    have h1 : t.val = 0 + (x 1).val := hx 1
    have l0 : (x 0).val < 1 := (x 0).isLt
    have hn : back n = g := Fin.ext (by omega)
    have hx' : x = (ix2 0 ⟨t.val, by omega⟩ : S1x128.Idx) := by
      funext a; fin_cases a
      · exact Fin.ext (by show (x 0).val = 0; omega)
      · exact Fin.ext (by show (x 1).val = t.val; omega)
    rw [hn, hx', groupScale_at]
    rfl
  have hm : ∃ p ∈ scalePieces (cols x0), (ix2 ⟨g.val, by omega⟩ ⟨t.val, by omega⟩ : S128x128.Idx) ∈ p.1.set := by
    refine ⟨_, List.mem_ofFn.mpr ⟨back g, rfl⟩, (Rect.mem_set_unit (inb := inb_s _)).mpr fun a => ?_⟩
    have hb : (back (back g)).val = g.val := by simp only [back]; omega
    fin_cases a
    · show (back (back g)).val ≤ g.val ∧ g.val < (back (back g)).val + 1; omega
    · show 0 ≤ t.val ∧ t.val < 0 + 128; omega
  refine canon_append_eq _ _ _ _ hm fun p hp x hx => ?_
  obtain ⟨n, rfl⟩ := List.mem_ofFn.mp hp
  refine key n x fun a => ?_
  rw [← hx, Rect.emb_apply]
  show _ + 1 * _ = _
  rw [Nat.one_mul]
  rfl

/-- The scales handed out. -/
theorem handedOf_at (t : Fin 96) (g : Fin 47) : handedOf x0 (ix2 t g : S96x47.Idx) = scaleOf x0 t g := by
  unfold handedOf
  rw [View.canon_unit_zero (by decide), ← scalesOf_at]
  pointwise [k0_pay410]

/-! ## The blocks -/

/-- On the diagonal lie the codes of the 47 groups, -/
theorem stores_on (t : Fin 96) (g : Fin 47) (k : Fin 128) (p : Fin 24) (r c : Fin 256) (hp : p.val = g.val / 2)
    (hr : r.val = 128 * (g.val % 2) + k.val) (hc : c.val = 128 * (g.val % 2) + t.val) :
    View.canon (blockStores (cols x0)) (ix3 p r c : S24x256x256.Idx) = code x0 t g k := by
  have hg := g.isLt
  have ht := t.isLt
  have hk := k.isLt
  unfold blockStores
  have hb : (back (back g)).val = g.val := by simp only [back]; omega
  refine canon_append_eq _ _ _ _ ⟨_, List.mem_ofFn.mpr ⟨back g, rfl⟩, (Rect.mem_set_unit (inb := inb_q _)).mpr fun a => ?_⟩ fun q hq x hx => ?_
  · fin_cases a
    · show (back (back g)).val / 2 ≤ p.val ∧ p.val < (back (back g)).val / 2 + 1; omega
    · show 128 * ((back (back g)).val % 2) ≤ r.val ∧ r.val < 128 * ((back (back g)).val % 2) + 128; omega
    · show 128 * ((back (back g)).val % 2) ≤ c.val ∧ c.val < 128 * ((back (back g)).val % 2) + 128; omega
  · obtain ⟨n, rfl⟩ := List.mem_ofFn.mp hq
    have hv := fun a => congrArg Fin.val (congrFun hx a)
    simp only [Rect.emb_apply] at hv
    have h0 : (back n).val / 2 + 1 * (x 0).val = p.val := hv 0
    have h1 : 128 * ((back n).val % 2) + 1 * (x 1).val = r.val := hv 1
    have h2 : 128 * ((back n).val % 2) + 1 * (x 2).val = c.val := hv 2
    have l0 : (x 0).val < 1 := (x 0).isLt
    have l1 : (x 1).val < 128 := (x 1).isLt
    have l2 : (x 2).val < 128 := (x 2).isLt
    have hn : back n = g := Fin.ext (by omega)
    have hn' : (back n).val = g.val := congrArg Fin.val hn
    have hx' : x = (ix3 0 k ⟨t.val, by omega⟩ : S1x128x128.Idx) := by
      funext a; fin_cases a
      · exact Fin.ext (show (x 0).val = 0 by omega)
      · exact Fin.ext (show (x 1).val = k.val by omega)
      · exact Fin.ext (show (x 2).val = t.val by omega)
    show groupBlock (cols x0 (back n)) x = _
    rw [hn, hx', groupBlock_at, cols_at]
    rfl

/-- off it the fill with zeros. -/
theorem stores_off (p : Fin 24) (r c : Fin 256) (h : r.val / 128 ≠ c.val / 128) :
    View.canon (blockStores (cols x0)) (ix3 p r c : S24x256x256.Idx) = 0 := by
  unfold blockStores
  rw [canon_append_of_not_mem]
  · rw [View.canon_unit_zero (by decide)]
    pointwise [k0_pay3]
    simp [Ideal.ofBits, Ideal.e4m3fn]
  · intro q hq hm
    obtain ⟨n, rfl⟩ := List.mem_ofFn.mp hq
    have hm := (Rect.mem_set_unit (inb := inb_q _)).mp hm
    have h1 : 128 * ((back n).val % 2) ≤ r.val ∧ r.val < 128 * ((back n).val % 2) + 128 := hm 1
    have h2 : 128 * ((back n).val % 2) ≤ c.val ∧ c.val < 128 * ((back n).val % 2) + 128 := hm 2
    omega

theorem mem_last {p : Fin 24} {r c : Fin 256} : (ix3 p r c : S24x256x256.Idx) ∈ (lastStore (cols x0)).1.set ↔ p.val = 23 ∧ 128 ≤ r.val ∧ 128 ≤ c.val := by
  unfold lastStore
  refine (Rect.mem_set_unit (inb := inb_S24x256x256_S1x128x128_23_128_128)).trans ⟨fun h => ?_, fun h a => ?_⟩
  · have h0 : 23 ≤ p.val ∧ p.val < 24 := h 0
    have h1 : 128 ≤ r.val ∧ r.val < 256 := h 1
    have h2 : 128 ≤ c.val ∧ c.val < 256 := h 2
    omega
  · have hr := r.isLt
    have hc := c.isLt
    fin_cases a
    · show 23 ≤ p.val ∧ p.val < 24; omega
    · show 128 ≤ r.val ∧ r.val < 256; omega
    · show 128 ≤ c.val ∧ c.val < 256; omega

/-- The codes kept: on the diagonal those of the pair's two groups; -/
theorem blocksOf_on (t : Fin 96) (g : Fin 47) (k : Fin 128) (p : Fin 24) (r c : Fin 256) (hp : p.val = g.val / 2)
    (hr : r.val = 128 * (g.val % 2) + k.val) (hc : c.val = 128 * (g.val % 2) + t.val) :
    blocksOf x0 (ix3 p r c : S24x256x256.Idx) = code x0 t g k := by
  unfold blocksOf
  rw [View.canon_cons_of_not_mem _ _ fun h => by have := (mem_last x0).mp h; omega]
  exact stores_on x0 t g k p r c hp hr hc

/-- the last pair's second half is a copy of its first; -/
theorem blocksOf_last (t : Fin 96) (k : Fin 128) (r c : Fin 256) (hr : r.val = 128 + k.val) (hc : c.val = 128 + t.val) :
    blocksOf x0 (ix3 23 r c : S24x256x256.Idx) = code x0 t 46 k := by
  have ht := t.isLt
  have hk := k.isLt
  unfold blocksOf
  have hy : (ix3 23 r c : S24x256x256.Idx) = (lastStore (cols x0)).1.emb (ix3 0 k ⟨t.val, by omega⟩ : S1x128x128.Idx) := by
    funext a; refine Fin.ext ?_
    fin_cases a
    · rfl
    · show r.val = 128 + 1 * k.val; omega
    · show c.val = 128 + 1 * t.val; omega
  rw [hy]
  refine (View.canon_cons_emb _ _ _ _).trans ?_
  rw [← stores_on x0 t 46 k 23 ⟨k.val, by omega⟩ ⟨t.val, by omega⟩ rfl (by simp) (by simp)]
  pointwise [k0_pay411]

/-- off the diagonal zero. -/
theorem blocksOf_off (p : Fin 24) (r c : Fin 256) (h : r.val / 128 ≠ c.val / 128) :
    blocksOf x0 (ix3 p r c : S24x256x256.Idx) = 0 := by
  unfold blocksOf
  rw [View.canon_cons_of_not_mem _ _ fun hm => by have := (mem_last x0).mp hm; omega]
  exact stores_off x0 p r c h

end Cert.KernelIdeal.Stages
-- ==== Proof.Run2.lean ====
/- What the projection leaves in its output block: the run of the body's second stage, at any contents of the two
   buffers the first stage fills. -/
module

public import proofs.«01_k».proof.Proof.Stages
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The projection's triple: the pieces it stores into the output block are found by the run. -/
def run2 (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole)
    (x1 : Vec F S256x6016 .fp8e4m3) (x2 : Vec F S256x6016 .fp8e4m3) (x3 : Vec F S182x47 .f32) (x4 : Vec F S182x47 .f32)
    (q : Vec F S24x256x256 .fp8e4m3) (s : Vec F S128x128 .f32) :
    {L : List (View.Piece (Elt F) S96x256 .bf16) // ∀ (E : Set ℕ) (R : Type) (κ : Prog (TpuEff nD τ sig (Elt F) Λ₀ .tc) R) (K : R → sProp 𝕄),
      iprop(owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare q ∗ owns (c : Thread nD τ) arg10 fullShare s
          ∗ (iprop(owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L) ∗ owns (c : Thread nD τ) arg9 fullShare q ∗ owns (c : Thread nD τ) arg10 fullShare s)
            -∗ wp frame (wpE (defs₀ (F := F)) Variants.none c none) E κ K))
        ⊢ wp frame (wpE (defs₀ (F := F)) Variants.none c none) E (stage2 i arg1 harg1 arg2 harg2 arg3 harg3 arg4 harg4 arg5 harg5 arg6 harg6 arg7 harg7 arg8 harg8 arg9 harg9 arg10 harg10 κ) K} := by
  refine ⟨?_, fun E R κ K => ?run⟩
  case run =>
    unfold stage2
    unfold owns
    iintro ⟨⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf1; obtain rfl := harg3.eq_unread hf2; obtain rfl := harg4.eq_unread hf3; obtain rfl := harg5.eq_unread hf4
    obtain rfl := harg9.eq_unread hs0; obtain rfl := harg10.eq_unread hs1
    sl_exec_parts
    iapply Hk
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists f5; iexact H5
    isplitl [HS0]
    · iexists _; isplitr; · ipureintro; exact harg9.read_unread _
      iexact HS0
    iexists _; isplitr; · ipureintro; exact harg10.read_unread _
    iexact HS1

end Cert.KernelIdeal.Stages
-- ==== Proof.Project.lean ====
/- The projection of one block of 256 rows: the terms of the 47 groups, the running sum over them, and the pieces the
   body's second stage stores. -/
module

public import proofs.«01_k».proof.Proof.Run2
public import Idealize.ShloMosaic.Lib.Pipeline.ReadBack
public import Idealize.ShloMosaic.Lib.Pipeline.ValueKit.Tiles

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem inb_w (p : Fin 23) : ∀ a, (![0, 256 * p.val] : Fin 2 → ℕ) a + S256x256.size a ≤ S256x6016.size a := by
  intro a; have := p.isLt; fin_cases a <;> simp [S256x256, S256x6016] <;> omega

theorem inb_p (p : Fin 24) : ∀ a, (![p.val, 0, 0] : Fin 3 → ℕ) a + S1x256x256.size a ≤ S24x256x256.size a := by
  intro a; have := p.isLt; fin_cases a <;> simp [S1x256x256, S24x256x256] <;> omega

theorem inb_row (g : Fin 47) : ∀ a, (![g.val, 0] : Fin 2 → ℕ) a + S1x128.size a ≤ S128x128.size a := by
  intro a; have := g.isLt; fin_cases a <;> simp [S1x128, S128x128] <;> omega

theorem slices_quarter (r h : Fin 2) : S256x256.Slices ![128 * r.val, 128 * h.val] S128x128 := by
  fin_cases r <;> fin_cases h <;> decide

theorem slices_half (r : Fin 2) : S128x256.Slices ![0, 128 * r.val] S128x128 := by
  fin_cases r <;> decide

/-- Where the weight scale of half `r` of a block and group `g` lies, as the body computes it. -/
def scaleAt (i : grid0.Coords) (r : Fin 2) (g : Fin 47) : Fin 2 → ℕ :=
  ![(Scalar.indexCast (Scalar.addi (Scalar.muli (BitVec.ofNat 32 (i 0).val) 2#32) (BitVec.ofNat 32 r.val))).toNat, g.val]

theorem scaleAt_eq (i : grid0.Coords) (r : Fin 2) (g : Fin 47) : scaleAt i r g = ![2 * (i 0).val + r.val, g.val] := by
  have hi : (i 0).val < 91 := (i 0).isLt
  have : (Scalar.indexCast (Scalar.addi (Scalar.muli (BitVec.ofNat 32 (i 0).val) 2#32) (BitVec.ofNat 32 r.val))).toNat = 2 * (i 0).val + r.val := by
    show (BitVec.ofNat 32 (i 0).val * 2#32 + BitVec.ofNat 32 r.val : BitVec 32).toNat = _
    have := r.isLt
    simp only [BitVec.toNat_add, BitVec.toNat_mul, BitVec.toNat_ofNat]
    omega
  rw [scaleAt, this]

theorem inb_scaleAt (i : grid0.Coords) (r : Fin 2) (g : Fin 47) : ∀ a, scaleAt i r g a + S1x1.size a ≤ S182x47.size a := by
  have hi : (i 0).val < 91 := (i 0).isLt
  rw [scaleAt_eq]
  intro a; have := r.isLt; have := g.isLt; fin_cases a <;> simp [S1x1, S182x47] <;> omega

/-- What one projection reads: the blocks of the weights and of the quantised activations, the rows of the tokens' scales
    and the weight scales. -/
structure Reads (F : FTy → Type) where
  w : Fin 23 → Vec F S256x256 .fp8e4m3
  w0 : Vec F S128x128 .fp8e4m3
  w1 : Vec F S128x128 .fp8e4m3
  q : Fin 24 → Vec F S1x256x256 .fp8e4m3
  s : Fin 47 → Vec F S1x128 .f32
  ws : Fin 2 → Fin 47 → Elt F .f32

/-- The scale of a term: the tokens' scales of group `g` times the weight scale. -/
def termScale (R : Reads F) (r : Fin 2) (g : Fin 47) : FVec F S1x128 .f32 := mulf (R.s g) (broadcast S1x128 (R.ws r g))

/-- The product of pair `p`'s columns with its block-diagonal partner. -/
def pairProduct (R : Reads F) (p : Fin 23) : FVec F S256x256 .f32 := k0_pay412 (R.w p) (R.q p.castSucc)

/-- The product of the last group's columns, the two halves of the block side by side. -/
def lastProduct (R : Reads F) : FVec F S128x256 .f32 := k0_pay601 R.w0 R.w1 (R.q 23)

/-- The term of group `g` of the first 46. -/
def pairTerm (R : Reads F) (r : Fin 2) (g : Fin 46) : FVec F S128x128 .f32 :=
  mulf (extractStridedSlice S128x128 ![128 * r.val, 128 * (⟨g.val % 2, Nat.mod_lt _ (by decide)⟩ : Fin 2).val] (pairProduct R ⟨g.val / 2, by omega⟩) (slices_quarter r _))
    (broadcastTo S128x128 (termScale R r g.castSucc) broadcasts_S1x128_S128x128)

/-- The term of the last group. -/
def lastTerm (R : Reads F) (r : Fin 2) : FVec F S128x128 .f32 :=
  mulf (extractStridedSlice S128x128 ![0, 128 * r.val] (lastProduct R) (slices_half r))
    (broadcastTo S128x128 (termScale R r 46) broadcasts_S1x128_S128x128)

/-- The running sum over the first groups. -/
def sumTo (R : Reads F) (r : Fin 2) : (n : ℕ) → n < 46 → FVec F S128x128 .f32
  | 0, h => pairTerm R r ⟨0, h⟩
  | n + 1, h => addf (sumTo R r n (Nat.lt_of_succ_lt h)) (pairTerm R r ⟨n + 1, h⟩)

/-- The projection of half `r` of the block, one column per token. -/
def projected (R : Reads F) (r : Fin 2) : FVec F S128x128 .f32 := addf (sumTo R r 45 (by decide)) (lastTerm R r)

/-- What one projection reads, as the body loads it. -/
def readsAt (argw : Memref sig .tc .vmem S256x6016 .fp8e4m3) (hargw : argw.IsWhole) (args : Memref sig .tc .smem S182x47 .f32) (hargs : args.IsWhole)
    (arg9 : Memref sig .tc .vmem S24x256x256 .fp8e4m3) (harg9 : arg9.IsWhole) (arg10 : Memref sig .tc .vmem S128x128 .f32) (harg10 : arg10.IsWhole)
    (i : grid0.Coords) (w : Vec F S256x6016 .fp8e4m3) (ws : Vec F S182x47 .f32) (q : Vec F S24x256x256 .fp8e4m3) (s : Vec F S128x128 .f32) : Reads F where
  w p := View.readAt (Elt F) argw.view (Rect.unit (s := S256x6016) ![0, 256 * p.val] S256x256.size (inb_w p)).toLoadRect (hargw.unread w)
  w0 := View.readAt (Elt F) argw.view (Rect.unit (s := S256x6016) ![0, 5888] S128x128.size inb_S256x6016_S128x128_0_5888).toLoadRect (hargw.unread w)
  w1 := View.readAt (Elt F) argw.view (Rect.unit (s := S256x6016) ![128, 5888] S128x128.size inb_S256x6016_S128x128_128_5888).toLoadRect (hargw.unread w)
  q p := View.readAt (Elt F) arg9.view (Rect.unit (s := S24x256x256) ![p.val, 0, 0] S1x256x256.size (inb_p p)).toLoadRect (harg9.unread q)
  s g := View.readAt (Elt F) arg10.view (Rect.unit (s := S128x128) ![g.val, 0] S1x128.size (inb_row g)).toLoadRect (harg10.unread s)
  ws r g := View.readAt (Elt F) args.view (Rect.unit (s := S182x47) (scaleAt i r g) S1x1.size (inb_scaleAt i r g)).toLoadRect (hargs.unread ws) (Shape.Idx.first (show 0 < S1x1.numel by decide))

/-- The same of the arrays' contents. -/
def readsOf (i : grid0.Coords) (w : Vec F S256x6016 .fp8e4m3) (ws : Vec F S182x47 .f32) (q : Vec F S24x256x256 .fp8e4m3) (s : Vec F S128x128 .f32) : Reads F where
  w p := View.ld w (Rect.unit (s := S256x6016) ![0, 256 * p.val] S256x256.size (inb_w p))
  w0 := View.ld w (Rect.unit (s := S256x6016) ![0, 5888] S128x128.size inb_S256x6016_S128x128_0_5888)
  w1 := View.ld w (Rect.unit (s := S256x6016) ![128, 5888] S128x128.size inb_S256x6016_S128x128_128_5888)
  q p := View.ld q (Rect.unit (s := S24x256x256) ![p.val, 0, 0] S1x256x256.size (inb_p p))
  s g := View.ld s (Rect.unit (s := S128x128) ![g.val, 0] S1x128.size (inb_row g))
  ws r g := View.ld ws (Rect.unit (s := S182x47) (scaleAt i r g) S1x1.size (inb_scaleAt i r g)) (Shape.Idx.first (show 0 < S1x1.numel by decide))

/-- A load of contents held whole reads the contents. -/
theorem readAt_unread {sp : Space} {s : Shape} {e : EltTy} (arg : Memref sig .tc sp s e) (harg : arg.IsWhole) (x : Vec F s e) (r : Rect s) :
    View.readAt (Elt F) arg.view r.toLoadRect (harg.unread x) = View.ld x r := by
  rw [View.readAt_eq_ld, harg.read_unread]

theorem readsAt_eq (argw : Memref sig .tc .vmem S256x6016 .fp8e4m3) (hargw : argw.IsWhole) (args : Memref sig .tc .smem S182x47 .f32) (hargs : args.IsWhole)
    (arg9 : Memref sig .tc .vmem S24x256x256 .fp8e4m3) (harg9 : arg9.IsWhole) (arg10 : Memref sig .tc .vmem S128x128 .f32) (harg10 : arg10.IsWhole)
    (i : grid0.Coords) (w : Vec F S256x6016 .fp8e4m3) (ws : Vec F S182x47 .f32) (q : Vec F S24x256x256 .fp8e4m3) (s : Vec F S128x128 .f32) :
    readsAt argw hargw args hargs arg9 harg9 arg10 harg10 i w ws q s = readsOf i w ws q s := by
  unfold readsAt readsOf
  simp only [readAt_unread]

/-- The gated product, one row per token. -/
def gated (g u : FVec F S128x128 .f32) : FVec F S96x128 .bf16 :=
  truncf .bf16 (extractStridedSlice S96x128 ![0, 0] (transpose S128x128 [1, 0] (mulf (mulf g (logistic g)) u) transposes_S128x128_p1_0_S128x128) slices_S128x128_o0_0_S96x128) bitsLt_bf16_f32

section
variable (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole)
    (x1 : Vec F S256x6016 .fp8e4m3) (x2 : Vec F S256x6016 .fp8e4m3) (x3 : Vec F S182x47 .f32) (x4 : Vec F S182x47 .f32)
    (q : Vec F S24x256x256 .fp8e4m3) (s : Vec F S128x128 .f32)

/-- The two pieces the second stage stores, of what its two projections read. -/
def outPieces (G U : Reads F) : List (View.Piece (Elt F) S96x256 .bf16) :=
  [⟨Rect.unit ![0, 128] S96x128.size inb_S96x256_S96x128_0_128, gated (projected G 1) (projected U 1)⟩,
   ⟨Rect.unit ![0, 0] S96x128.size inb_S96x256_S96x128_0_0, gated (projected G 0) (projected U 0)⟩]

theorem run2_loaded : (run2 c i arg1 harg1 arg2 harg2 arg3 harg3 arg4 harg4 arg5 harg5 arg6 harg6 arg7 harg7 arg8 harg8 arg9 harg9 arg10 harg10 x1 x2 x3 x4 q s).val
    = outPieces (readsAt arg2 harg2 arg4 harg4 arg9 harg9 arg10 harg10 i x1 x3 q s) (readsAt arg3 harg3 arg5 harg5 arg9 harg9 arg10 harg10 i x2 x4 q s) := by
  sl_kernel_rfl

theorem run2_pieces : (run2 c i arg1 harg1 arg2 harg2 arg3 harg3 arg4 harg4 arg5 harg5 arg6 harg6 arg7 harg7 arg8 harg8 arg9 harg9 arg10 harg10 x1 x2 x3 x4 q s).val = outPieces (readsOf i x1 x3 q s) (readsOf i x2 x4 q s) := by
  rw [run2_loaded, readsAt_eq, readsAt_eq]

end

/-- The block the second stage leaves. -/
def outBlock (i : grid0.Coords) (x1 x2 : Vec F S256x6016 .fp8e4m3) (x3 x4 : Vec F S182x47 .f32) (q : Vec F S24x256x256 .fp8e4m3) (s : Vec F S128x128 .f32) : Vec F S96x256 .bf16 :=
  View.canon (outPieces (readsOf i x1 x3 q s) (readsOf i x2 x4 q s))

theorem outPieces_cover (G U : Reads F) (y : S96x256.Idx) : ∃ p ∈ outPieces G U, y ∈ p.1.set :=
  View.cover_of_tiled_head _ _ _ (by rfl) y

end Cert.KernelIdeal.Stages
-- ==== Proof.Terms.lean ====
/- The projection of a block at the real values: each output row is the sum over the 47 groups of the codes' product
   with the weights, times the token's scale times the weight scale. -/
module

public import proofs.«01_k».proof.Proof.Kept
public import proofs.«01_k».proof.Proof.Project

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (x0 : Vec Ideal S96x6016 .bf16) (i : grid0.Coords) (w : Vec Ideal S256x6016 .fp8e4m3) (ws : Vec Ideal S182x47 .f32)

/-- What one projection reads when the buffers hold what the first stage leaves. -/
abbrev R : Reads Ideal := readsOf i w ws (blocksOf x0) (scalesOf x0)

/-- The weight scale's row for row `r` of the block. -/
def scaleRow (r : Fin 256) : Fin 182 :=
  ⟨2 * (i 0).val + r.val / 128, by have : (i 0).val < 91 := (i 0).isLt; omega⟩

/-- The product of row `r` of the weights with token `t`'s codes in group `g`, -/
def dot (r : Fin 256) (t : Fin 96) (g : Fin 47) : EReal := ∑ k : Fin 128, w (ix2 r (at_ g k)) * code x0 t g k

/-- and the term it gives. -/
def term (r : Fin 256) (t : Fin 96) (g : Fin 47) : EReal := dot x0 w r t g * (scaleOf x0 t g * ws (ix2 (scaleRow i r) g))

/-- The projection of row `r`. -/
def projection (r : Fin 256) (t : Fin 96) : EReal := ∑ g : Fin 47, term x0 i w ws r t g

theorem read_w (p : Fin 23) (a b : Fin 256) (c : Fin 6016) (h : c.val = 256 * p.val + b.val) : (R x0 i w ws).w p (ix2 a b : S256x256.Idx) = w (ix2 a c) := by
  rw [show c = ⟨256 * p.val + b.val, by omega⟩ from Fin.ext h]
  pointwise [readsOf]

theorem read_w0 (a b : Fin 128) (r : Fin 256) (h : r.val = a.val) : (R x0 i w ws).w0 (ix2 a b : S128x128.Idx) = w (ix2 r (at_ 46 b)) := by
  refine View.ld_unit_apply_of _ _ _ _ _ _ fun d => ?_
  fin_cases d
  · exact h.trans (Nat.zero_add _).symm
  · rfl

theorem read_w1 (a b : Fin 128) (r : Fin 256) (h : r.val = 128 + a.val) : (R x0 i w ws).w1 (ix2 a b : S128x128.Idx) = w (ix2 r (at_ 46 b)) := by
  refine View.ld_unit_apply_of _ _ _ _ _ _ fun d => ?_
  fin_cases d
  · exact h
  · rfl

theorem read_block (q : Vec Ideal S24x256x256 .fp8e4m3) (s : Vec Ideal S128x128 .f32) (p : Fin 24) (a b : Fin 256) :
    (readsOf i w ws q s).q p (ix3 0 a b : S1x256x256.Idx) = q (ix3 p a b) := by
  pointwise [readsOf]

theorem read_q (p : Fin 24) (a b : Fin 256) : (R x0 i w ws).q p (ix3 0 a b : S1x256x256.Idx) = blocksOf x0 (ix3 p a b) :=
  read_block i w ws _ _ p a b

theorem read_scales (q : Vec Ideal S24x256x256 .fp8e4m3) (s : Vec Ideal S128x128 .f32) (g : Fin 47) (b : Fin 128) :
    (readsOf i w ws q s).s g (ix2 0 b : S1x128.Idx) = s (ix2 ⟨g.val, by omega⟩ b) := by
  pointwise [readsOf]

theorem read_s (g : Fin 47) (t : Fin 96) : (R x0 i w ws).s g (ix2 0 ⟨t.val, by omega⟩ : S1x128.Idx) = scaleOf x0 t g :=
  (read_scales i w ws _ _ g _).trans (scalesOf_at x0 t g)

theorem read_ws (r : Fin 2) (g : Fin 47) (s : Fin 182) (h : s.val = 2 * (i 0).val + r.val) : (R x0 i w ws).ws r g = ws (ix2 s g) := by
  refine View.ld_unit_apply_of _ _ _ _ _ _ fun d => ?_
  have e := congrFun (scaleAt_eq i r g) d
  fin_cases d
  · exact h.trans e.symm
  · exact e.symm

/-- The half of the pair's product that lies on the diagonal is the group's; the other half is zero. -/
theorem pairProduct_at (g : Fin 46) (r : Fin 256) (t : Fin 96) (c : Fin 256) (hc : c.val = 128 * (g.val % 2) + t.val) :
    pairProduct (R x0 i w ws) ⟨g.val / 2, by omega⟩ (ix2 r c : S256x256.Idx) = dot x0 w r t g.castSucc := by
  have hg := g.isLt
  have ht := t.isLt
  have hgv : g.castSucc.val = g.val := rfl
  pointwise [pairProduct, k0_pay412]
  rw [Fin.sum_univ_two_halves 128 128 rfl]
  simp only [read_q]
  have on : ∀ (k : Fin 128) (a : Fin 256), a.val = 128 * (g.val % 2) + k.val →
      (R x0 i w ws).w ⟨g.val / 2, by omega⟩ (ix2 r a) * blocksOf x0 (ix3 (Fin.castSucc ⟨g.val / 2, by omega⟩) a c) = w (ix2 r (at_ g.castSucc k)) * code x0 t g.castSucc k := by
    intro k a ha
    rw [blocksOf_on x0 t g.castSucc k _ a c rfl ha hc, read_w x0 i w ws _ r a (at_ g.castSucc k) (by simp only [at_]; omega)]
  have off : ∀ (k : Fin 128) (a : Fin 256), a.val = 128 * (1 - g.val % 2) + k.val →
      (R x0 i w ws).w ⟨g.val / 2, by omega⟩ (ix2 r a) * blocksOf x0 (ix3 (Fin.castSucc ⟨g.val / 2, by omega⟩) a c) = 0 := by
    intro k a ha
    rw [blocksOf_off x0 _ a c (by omega), mul_zero]
  rcases Nat.mod_two_eq_zero_or_one g.val with h | h
  · rw [Finset.sum_congr rfl fun k _ => on k _ (by rw [h]; simp), Finset.sum_congr rfl fun k _ => off k _ (by rw [h]), Finset.sum_const_zero, add_zero]
    rfl
  · rw [Finset.sum_congr rfl fun k _ => off k _ (by rw [h]; simp), Finset.sum_congr rfl fun k _ => on k _ (by rw [h]), Finset.sum_const_zero, zero_add]
    rfl

theorem pairTerm_at (h : Fin 2) (g : Fin 46) (o : Fin 128) (r : Fin 256) (hr : r.val = 128 * h.val + o.val) (t : Fin 96) :
    pairTerm (R x0 i w ws) h g (ix2 o ⟨t.val, by omega⟩ : S128x128.Idx) = term x0 i w ws r t g.castSucc := by
  pointwise [pairTerm, termScale]
  rw [read_s, read_ws x0 i w ws h _ (scaleRow i r) (by simp only [scaleRow]; omega), show (⟨128 * h.val + o.val, by omega⟩ : Fin 256) = r from Fin.ext hr.symm,
    pairProduct_at x0 i w ws g r t _ rfl]
  rfl

theorem lastProduct_at (h : Fin 2) (o : Fin 128) (r : Fin 256) (hr : r.val = 128 * h.val + o.val) (t : Fin 96) (c : Fin 256) (hc : c.val = 128 * h.val + t.val) :
    lastProduct (R x0 i w ws) (ix2 o c : S128x256.Idx) = dot x0 w r t 46 := by
  have ht := t.isLt
  pointwise [lastProduct, k0_pay601]
  simp only [read_q]
  match h with
  | 0 =>
    simp only [Fin.val_zero, Nat.mul_zero, Nat.zero_add] at hr hc
    have e1 : ∀ k : Fin 128, (R x0 i w ws).w0 (ix2 o k) * blocksOf x0 (ix3 23 ⟨k.val, by omega⟩ c) = w (ix2 r (at_ 46 k)) * code x0 t 46 k := fun k => by
      rw [read_w0 x0 i w ws o k r hr, blocksOf_on x0 t 46 k 23 _ c rfl (by simp) (by simpa using hc)]
    have e2 : ∀ k : Fin 128, (R x0 i w ws).w1 (ix2 o k) * blocksOf x0 (ix3 23 ⟨128 + k.val, by omega⟩ c) = 0 := fun k => by
      rw [blocksOf_off x0 23 _ c (by dsimp only; omega), mul_zero]
    rw [Finset.sum_congr rfl fun k _ => e1 k, Finset.sum_congr rfl fun k _ => e2 k, Finset.sum_const_zero, add_zero]
    rfl
  | 1 =>
    simp only [Fin.val_one, Nat.mul_one] at hr hc
    have e1 : ∀ k : Fin 128, (R x0 i w ws).w0 (ix2 o k) * blocksOf x0 (ix3 23 ⟨k.val, by omega⟩ c) = 0 := fun k => by
      rw [blocksOf_off x0 23 _ c (by dsimp only; omega), mul_zero]
    have e2 : ∀ k : Fin 128, (R x0 i w ws).w1 (ix2 o k) * blocksOf x0 (ix3 23 ⟨128 + k.val, by omega⟩ c) = w (ix2 r (at_ 46 k)) * code x0 t 46 k := fun k => by
      rw [read_w1 x0 i w ws o k r hr, blocksOf_last x0 t k _ c rfl hc]
    rw [Finset.sum_congr rfl fun k _ => e1 k, Finset.sum_congr rfl fun k _ => e2 k, Finset.sum_const_zero, zero_add]
    rfl

theorem lastTerm_at (h : Fin 2) (o : Fin 128) (r : Fin 256) (hr : r.val = 128 * h.val + o.val) (t : Fin 96) :
    lastTerm (R x0 i w ws) h (ix2 o ⟨t.val, by omega⟩ : S128x128.Idx) = term x0 i w ws r t 46 := by
  pointwise [lastTerm, termScale]
  rw [read_s, read_ws x0 i w ws h _ (scaleRow i r) (by simp only [scaleRow]; omega), lastProduct_at x0 i w ws h o r hr t _ rfl]
  rfl

theorem sumTo_at (h : Fin 2) (o : Fin 128) (r : Fin 256) (hr : r.val = 128 * h.val + o.val) (t : Fin 96) : ∀ (n : ℕ) (hn : n < 46),
    sumTo (R x0 i w ws) h n hn (ix2 o ⟨t.val, by omega⟩ : S128x128.Idx) = ∑ g : Fin (n + 1), term x0 i w ws r t ⟨g.val, by omega⟩
  | 0, hn => by
    rw [Fin.sum_univ_one]
    exact pairTerm_at x0 i w ws h ⟨0, hn⟩ o r hr t
  | n + 1, hn => by
    rw [Fin.sum_univ_castSucc]
    refine (congrArg₂ (· + ·) (sumTo_at h o r hr t n (by omega)) (pairTerm_at x0 i w ws h ⟨n + 1, hn⟩ o r hr t)).trans ?_
    rfl

theorem projected_at (h : Fin 2) (o : Fin 128) (r : Fin 256) (hr : r.val = 128 * h.val + o.val) (t : Fin 96) :
    projected (R x0 i w ws) h (ix2 o ⟨t.val, by omega⟩ : S128x128.Idx) = projection x0 i w ws r t := by
  unfold projection
  rw [Fin.sum_univ_castSucc (n := 46)]
  refine (congrArg₂ (· + ·) (sumTo_at x0 i w ws h o r hr t 45 (by decide)) (lastTerm_at x0 i w ws h o r hr t)).trans ?_
  rfl

/-- The gated product. -/
def gate (G U : EReal) : EReal := G * Ideal.logistic G * U

/-- What the second stage leaves. -/
theorem outBlock_at (w' : Vec Ideal S256x6016 .fp8e4m3) (ws' : Vec Ideal S182x47 .f32) (t : Fin 96) (r : Fin 256) :
    outBlock i w w' ws ws' (blocksOf x0) (scalesOf x0) (ix2 t r : S96x256.Idx) = gate (projection x0 i w ws r t) (projection x0 i w' ws' r t) := by
  have hr := r.isLt
  have ht := t.isLt
  have half : ∀ (h : Fin 2) (x : S96x128.Idx), t.val = (x 0).val → r.val = 128 * h.val + (x 1).val →
      gated (projected (R x0 i w ws) h) (projected (R x0 i w' ws') h) x = gate (projection x0 i w ws r t) (projection x0 i w' ws' r t) := by
    intro h x e0 e1
    obtain ⟨o, rfl⟩ : ∃ o : Fin 128, x = (ix2 t o : S96x128.Idx) := ⟨x 1, by
      funext a; fin_cases a
      · exact Fin.ext e0.symm
      · rfl⟩
    pointwise [gated]
    rw [projected_at x0 i w ws h o r e1 t, projected_at x0 i w' ws' h o r e1 t]
    rfl
  unfold outBlock
  refine View.canon_eq_of_allAt _ _ _ (outPieces_cover _ _ _) fun p hp x hx => ?_
  have hv := fun a => congrArg Fin.val (congrFun hx a)
  rcases List.mem_cons.mp hp with rfl | hp
  · have h0 : 0 + 1 * (x 0).val = t.val := hv 0
    have h1 : 128 + 1 * (x 1).val = r.val := hv 1
    exact half 1 x (by omega) (by simp only [Fin.val_one]; omega)
  · obtain rfl := List.mem_singleton.mp hp
    have h0 : 0 + 1 * (x 0).val = t.val := hv 0
    have h1 : 0 + 1 * (x 1).val = r.val := hv 1
    exact half 0 x (by omega) (by simp only [Fin.val_zero]; omega)

end Cert.KernelIdeal.Stages
-- ==== Proof.Body.lean ====
/- The body's triple in its two cases: at the first grid point it quantises and then projects; at every later point it
   only projects, from what the first point left in the two scratch buffers. -/
module

public import proofs.«01_k».proof.Proof.Run1
public import proofs.«01_k».proof.Proof.Run2
public import proofs.«01_k».proof.Proof.Quantise
public import proofs.«01_k».proof.Proof.Project

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer holding a list of stores over anything holds what the list's contents say. -/
theorem owns_of_writes {c : Dev nD} {sp : Space} {s : Shape} {e : EltTy} (a : Memref sig .tc sp s e) (L : List (View.Piece (Elt F) s e)) (v : Vec F s e)
    (h : ∀ f, a.view.read (Elt F) (a.view.writes (Elt F) f L) = v) :
    iprop(∃ f, a.view.loc (c : Thread nD τ) ↦[a.view.set]{fullShare} a.view.writes (Elt F) f L) ⊢ (owns (c : Thread nD τ) a fullShare v : sProp 𝕄) := by
  unfold owns
  iintro ⟨%f, H⟩
  iexists _; isplitr; · ipureintro; exact h f
  iexact H

/-- The projection alone, its output block named. -/
theorem project_triple (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole)
    (x1 : Vec F S256x6016 .fp8e4m3) (x2 : Vec F S256x6016 .fp8e4m3) (x3 : Vec F S182x47 .f32) (x4 : Vec F S182x47 .f32)
    (q : Vec F S24x256x256 .fp8e4m3) (s : Vec F S128x128 .f32) (E : Set ℕ) (K : PUnit → sProp 𝕄) :
    iprop(owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare (d)) ∗ owns (c : Thread nD τ) arg9 fullShare (q) ∗ owns (c : Thread nD τ) arg10 fullShare (s)
        ∗ (iprop(owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (outBlock i x1 x2 x3 x4 q s) ∗ owns (c : Thread nD τ) arg9 fullShare (q) ∗ owns (c : Thread nD τ) arg10 fullShare (s))
          -∗ K ⟨⟩))
      ⊢ wp frame (wpE (defs₀ (F := F)) Variants.none c none) E (stage1.tail i arg1 harg1 arg2 harg2 arg3 harg3 arg4 harg4 arg5 harg5 arg6 harg6 arg7 harg7 arg8 harg8 arg9 harg9 arg10 harg10) K := by
  rw [stage2.eq]
  iintro ⟨H2, H3, H4, H5, H6, H9, H10, Hk⟩
  iapply ((run2 c i arg1 harg1 arg2 harg2 arg3 harg3 arg4 harg4 arg5 harg5 arg6 harg6 arg7 harg7 arg8 harg8 arg9 harg9 arg10 harg10 x1 x2 x3 x4 q s).2 E _ _ K)
  isplitl [H2]; · iexact H2
  isplitl [H3]; · iexact H3
  isplitl [H4]; · iexact H4
  isplitl [H5]; · iexact H5
  isplitl [H6]; · iexact H6
  isplitl [H9]; · iexact H9
  isplitl [H10]; · iexact H10
  iintro ⟨H2, H3, H4, H5, H6, H9, H10⟩
  unfold stage2.tail
  sl_step
  iapply Hk
  isplitl [H2]; · iexact H2
  isplitl [H3]; · iexact H3
  isplitl [H4]; · iexact H4
  isplitl [H5]; · iexact H5
  isplitl [H6]
  · iapply (owns_of_writes arg6 (run2 c i arg1 harg1 arg2 harg2 arg3 harg3 arg4 harg4 arg5 harg5 arg6 harg6 arg7 harg7 arg8 harg8 arg9 harg9 arg10 harg10 x1 x2 x3 x4 q s).1 _ (fun f => by
      rw [run2_pieces, View.read_writes_eq_canon _ _ _ (outPieces_cover _ _)]; rfl))
    iexact H6
  isplitl [H9]; · iexact H9
  iexact H10

/-- The body at a later point: it only projects. -/
theorem body_later (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole) (hc : ¬ k0_cond1 i = 1#1)
    (x1 : Vec F S256x6016 .fp8e4m3) (x2 : Vec F S256x6016 .fp8e4m3) (x3 : Vec F S182x47 .f32) (x4 : Vec F S182x47 .f32)
    (q : Vec F S24x256x256 .fp8e4m3) (s : Vec F S128x128 .f32) (E : Set ℕ) (K : PUnit → sProp 𝕄) :
    iprop(owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare (d)) ∗ owns (c : Thread nD τ) arg9 fullShare (q) ∗ owns (c : Thread nD τ) arg10 fullShare (s)
        ∗ (iprop(owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (outBlock i x1 x2 x3 x4 q s) ∗ owns (c : Thread nD τ) arg9 fullShare (q) ∗ owns (c : Thread nD τ) arg10 fullShare (s))
          -∗ K ⟨⟩))
      ⊢ wp frame (wpE (defs₀ (F := F)) Variants.none c none) E (cc0_swiglu_fp8 i arg1 harg1 arg2 harg2 arg3 harg3 arg4 harg4 arg5 harg5 arg6 harg6 arg7 harg7 arg8 harg8 arg9 harg9 arg10 harg10) K := by
  rw [flat.eq, stage1.eq, show stage1 i arg1 harg1 arg2 harg2 arg3 harg3 arg4 harg4 arg5 harg5 arg6 harg6 arg7 harg7 arg8 harg8 arg9 harg9 arg10 harg10 (stage1.tail i arg1 harg1 arg2 harg2 arg3 harg3 arg4 harg4 arg5 harg5 arg6 harg6 arg7 harg7 arg8 harg8 arg9 harg9 arg10 harg10) = stage1.tail i arg1 harg1 arg2 harg2 arg3 harg3 arg4 harg4 arg5 harg5 arg6 harg6 arg7 harg7 arg8 harg8 arg9 harg9 arg10 harg10 from if_neg hc]
  iintro ⟨H2, H3, H4, H5, H6, H9, H10, Hk⟩
  iapply (project_triple c i arg1 harg1 arg2 harg2 arg3 harg3 arg4 harg4 arg5 harg5 arg6 harg6 arg7 harg7 arg8 harg8 arg9 harg9 arg10 harg10 x1 x2 x3 x4 q s E K)
  isplitl [H2]; · iexact H2
  isplitl [H3]; · iexact H3
  isplitl [H4]; · iexact H4
  isplitl [H5]; · iexact H5
  isplitl [H6]; · iexact H6
  isplitl [H9]; · iexact H9
  isplitl [H10]; · iexact H10
  iexact Hk

set_option maxHeartbeats 4000000 in
/-- The body at the first point: it quantises `x0`, fills the two scratch buffers, hands out codes and scales, projects. -/
theorem body_first (c : Dev nD) (i : grid0.Coords) (arg1 : Memref sig .tc .vmem S96x6016 .bf16) (harg1 : arg1.IsWhole) (arg2 : Memref sig .tc .vmem S256x6016 .fp8e4m3) (harg2 : arg2.IsWhole) (arg3 : Memref sig .tc .vmem S256x6016 .fp8e4m3) (harg3 : arg3.IsWhole) (arg4 : Memref sig .tc .smem S182x47 .f32) (harg4 : arg4.IsWhole) (arg5 : Memref sig .tc .smem S182x47 .f32) (harg5 : arg5.IsWhole) (arg6 : Memref sig .tc .vmem S96x256 .bf16) (harg6 : arg6.IsWhole) (arg7 : Memref sig .tc .vmem S96x6016 .fp8e4m3) (harg7 : arg7.IsWhole) (arg8 : Memref sig .tc .vmem S96x47 .f32) (harg8 : arg8.IsWhole) (arg9 : Memref sig .tc .vmem S24x256x256 .fp8e4m3) (harg9 : arg9.IsWhole) (arg10 : Memref sig .tc .vmem S128x128 .f32) (harg10 : arg10.IsWhole) (hc : k0_cond1 i = 1#1)
    (x0 : Vec F S96x6016 .bf16) (x1 : Vec F S256x6016 .fp8e4m3) (x2 : Vec F S256x6016 .fp8e4m3) (x3 : Vec F S182x47 .f32) (x4 : Vec F S182x47 .f32)
    (E : Set ℕ) (K : PUnit → sProp 𝕄) :
    iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ (∃ d, owns (c : Thread nD τ) arg6 fullShare (d)) ∗ (∃ d, owns (c : Thread nD τ) arg7 fullShare (d)) ∗ (∃ d, owns (c : Thread nD τ) arg8 fullShare (d)) ∗ (∃ d, owns (c : Thread nD τ) arg9 fullShare (d)) ∗ (∃ d, owns (c : Thread nD τ) arg10 fullShare (d))
        ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (x4) ∗ owns (c : Thread nD τ) arg6 fullShare (outBlock i x1 x2 x3 x4 (blocksOf x0) (scalesOf x0)) ∗ owns (c : Thread nD τ) arg7 fullShare (codesOf x0) ∗ owns (c : Thread nD τ) arg8 fullShare (handedOf x0) ∗ owns (c : Thread nD τ) arg9 fullShare (blocksOf x0) ∗ owns (c : Thread nD τ) arg10 fullShare (scalesOf x0))
          -∗ K ⟨⟩))
      ⊢ wp frame (wpE (defs₀ (F := F)) Variants.none c none) E (cc0_swiglu_fp8 i arg1 harg1 arg2 harg2 arg3 harg3 arg4 harg4 arg5 harg5 arg6 harg6 arg7 harg7 arg8 harg8 arg9 harg9 arg10 harg10) K := by
  rw [flat.eq, stage1.eq]
  iintro ⟨H1, H2, H3, H4, H5, H6, H7, H8, H9, H10, Hk⟩
  iapply ((run1 c i arg1 harg1 arg2 harg2 arg3 harg3 arg4 harg4 arg5 harg5 arg6 harg6 arg7 harg7 arg8 harg8 arg9 harg9 arg10 harg10 hc x0).2.2.2.2 E _ _ K)
  isplitl [H1]; · iexact H1
  isplitl [H7]; · iexact H7
  isplitl [H8]; · iexact H8
  isplitl [H9]; · iexact H9
  isplitl [H10]; · iexact H10
  iintro ⟨H1, H7, H8, H9, H10⟩
  iapply (project_triple c i arg1 harg1 arg2 harg2 arg3 harg3 arg4 harg4 arg5 harg5 arg6 harg6 arg7 harg7 arg8 harg8 arg9 harg9 arg10 harg10 x1 x2 x3 x4 (blocksOf x0) (scalesOf x0) E K)
  isplitl [H2]; · iexact H2
  isplitl [H3]; · iexact H3
  isplitl [H4]; · iexact H4
  isplitl [H5]; · iexact H5
  isplitl [H6]; · iexact H6
  isplitl [H9]
  · iapply (owns_of_writes arg9 _ _ (fun f => run1_blocks_canon c i arg1 harg1 arg2 harg2 arg3 harg3 arg4 harg4 arg5 harg5 arg6 harg6 arg7 harg7 arg8 harg8 arg9 harg9 arg10 harg10 hc x0 f)); iexact H9
  isplitl [H10]
  · iapply (owns_of_writes arg10 _ _ (fun f => run1_scales_canon c i arg1 harg1 arg2 harg2 arg3 harg3 arg4 harg4 arg5 harg5 arg6 harg6 arg7 harg7 arg8 harg8 arg9 harg9 arg10 harg10 hc x0 f)); iexact H10
  iintro ⟨H2, H3, H4, H5, H6, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · iapply (owns_of_writes arg7 _ _ (fun f => run1_codes_canon c i arg1 harg1 arg2 harg2 arg3 harg3 arg4 harg4 arg5 harg5 arg6 harg6 arg7 harg7 arg8 harg8 arg9 harg9 arg10 harg10 hc x0 f)); iexact H7
  isplitl [H8]
  · iapply (owns_of_writes arg8 _ _ (fun f => run1_handed_canon c i arg1 harg1 arg2 harg2 arg3 harg3 arg4 harg4 arg5 harg5 arg6 harg6 arg7 harg7 arg8 harg8 arg9 harg9 arg10 harg10 hc x0 f)); iexact H8
  isplitl [H9]; · iexact H9
  iexact H10

end Cert.KernelIdeal.Stages
-- ==== Proof.Dats.lean ====
/- The pipeline's proof data: what every staging buffer and both scratch buffers hold point by point; the body's
   obligation; the run, with every counter back at zero. -/
module

public import proofs.«01_k».proof.Proof.Body
public import Idealize.ShloMosaic.Lib.Claim
public import Idealize.ShloMosaic.Lib.Pipeline.TableIdle

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 91 = 0 :=
  (fun t => by
    have ht : t.val < 91 := Nat.lt_of_lt_of_eq t.isLt N_0
    have e0 : (grid0.coords t 0).val = t.val / 1 % 91 := Pipeline.Grid.coords_val t 0 (by decide) rfl
    simp only [cond0_0, k0_cond1, e0]
    word_cmp
   : ∀ t : Fin grid0.N, cond0_0 (grid0.coords t) ↔ t.val % 91 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x6016 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6016 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x6016 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S182x47 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S182x47 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x6016 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x47 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S24x256x256 .fp8e4m3 := Memref.whole cc0_scratch0
abbrev scM0_1 : Memref sig .tc .vmem S128x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Window 5 is never idle. -/
theorem liveAt0_5 : ∀ t : Fin cfg0.N, cfg0.idle 5 (grid0.coords t) = false := fun _ => rfl

/-- Windows 6 and 7 are stored at the first point. -/
theorem live_start {k : Fin cfg0.W} (hk : k = 6 ∨ k = 7) (t : Fin cfg0.N) (ht : t.val = 0) : cfg0.idle k (grid0.coords t) = false := by
  have h : k0_cond1 (grid0.coords t) = 1#1 := (hcond0_0 t).mpr (by rw [ht])
  have h' : (!(k0_cond1 (grid0.coords t) == 1#1)) = false := by rw [h]; rfl
  rcases hk with rfl | rfl <;> exact h'

/-- From the second point on, their buffers hold what the first point stored. -/
theorem not_fresh {k : Fin cfg0.W} (hk : k = 6 ∨ k = 7) : ∀ n, n < 90 → cfg0.fresh k (n + 1) = false := by
  have hfl : ∀ t : Fin cfg0.N, t.val < 90 → (cfg0.win k).flush t = false := fun t ht =>
    Bool.eq_false_iff.mpr fun h => by
      have : t.val % 91 = 90 := by rcases hk with rfl | rfl; exacts [(flush0_6 t).mp h, (flush0_7 t).mp h]
      omega
  have hN : cfg0.N = 91 := N_0
  intro n
  induction n with
  | zero => intro _; rw [Pipeline.Cfg.fresh_succ cfg0 k 0 (by omega), hfl ⟨0, by omega⟩ (by dsimp only; omega), live_start hk ⟨0, by omega⟩ rfl]; rfl
  | succ n ih => intro hn; rw [Pipeline.Cfg.fresh_succ cfg0 k (n + 1) (by omega), hfl ⟨n + 1, by omega⟩ hn, ih (by omega), Bool.and_false]; rfl

/-- The first grid point. -/
abbrev start : Fin cfg0.N := ⟨0, by decide⟩

/-- The activations as the first point finds them. -/
def xin (c : Dev nD) : Vec F S96x6016 .bf16 := iblk m c 0 start

/-- The block of results that point `t` writes back. -/
def yAt (c : Dev nD) (t : Fin cfg0.N) : Vec F S96x256 .bf16 :=
  outBlock (grid0.coords t) (iblk m c 1 t) (iblk m c 2 t) (iblk m c 3 t) (iblk m c 4 t) (blocksOf (xin m c)) (scalesOf (xin m c))

/-- What the scratch buffers hold before point `n`: anything before the first, from then on what the first point left. -/
def carried (c : Dev nD) : ℕ → sProp 𝕄
  | 0 => iprop((∃ d, owns (c : Thread nD τ) scM0_0 fullShare (d)) ∗ (∃ d, owns (c : Thread nD τ) scM0_1 fullShare (d)))
  | _ + 1 => iprop(owns (c : Thread nD τ) scM0_0 fullShare (blocksOf (xin m c)) ∗ owns (c : Thread nD τ) scM0_1 fullShare (scalesOf (xin m c)))

/-- The proof data: inputs stay at their blocks, window 5 holds the point's results, windows 6 and 7 the codes and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => codesOf (xin m c)
    | ⟨7, _⟩ => handedOf (xin m c)
  Φ t := iprop(carried m c t.val ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = codesOf (xin m c) := by dsimp only [dats]
theorem after0_7 (c : Dev nD) (t : Fin cfg0.N) : (dats m 0 c).after 7 t = handedOf (xin m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- After the first point, window 6 still holds what the first point left there. -/
theorem before0_6 (c : Dev nD) (t : Fin cfg0.N) (ht : t.val ≠ 0) (d) : (dats m 0 c).before 6 t d = codesOf (xin m c) := by
  have hN : t.val < 91 := lt_of_lt_of_eq t.isLt (show cfg0.N = 91 from N_0)
  have hf : cfg0.fresh 6 t.val = false := by
    rw [show t.val = (t.val - 1) + 1 by omega]; exact not_fresh (by decide) _ (by omega)
  rw [(dats m 0 c).before_out_traj 6 rfl (fun _ _ => rfl) (fun t _ _ _ => by rw [after0_6, after0_6]) t.val t rfl d, hf,
    if_neg Bool.false_ne_true, after0_6]
/-- After the first point, window 7 still holds what the first point left there. -/
theorem before0_7 (c : Dev nD) (t : Fin cfg0.N) (ht : t.val ≠ 0) (d) : (dats m 0 c).before 7 t d = handedOf (xin m c) := by
  have hN : t.val < 91 := lt_of_lt_of_eq t.isLt (show cfg0.N = 91 from N_0)
  have hf : cfg0.fresh 7 t.val = false := by
    rw [show t.val = (t.val - 1) + 1 by omega]; exact not_fresh (by decide) _ (by omega)
  rw [(dats m 0 c).before_out_traj 7 rfl (fun _ _ => rfl) (fun t _ _ _ => by rw [after0_7, after0_7]) t.val t rfl d, hf,
    if_neg Bool.false_ne_true, after0_7]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
/-- A buffer of window 6 that holds the first point's store is what each point has to hand back. -/
theorem leaves0_6 (c : Dev nD) (t : Fin cfg0.N) : owns (c : Thread nD τ) (ms0_6 t) fullShare (codesOf (xin m c)) ⊢ ((dats m 0 c).leavesExact 6 t : sProp 𝕄) := by
  unfold Dat.leavesExact
  by_cases h0 : t.val = 0
  · rw [live_start (by decide) t h0, after0_6]; try exact .rfl
  · cases cfg0.idle 6 (cfg0.grid.coords t)
    · rw [after0_6]; try exact .rfl
    · cases (cfg0.win 6).flush t
      · simp only [before0_6 m c t h0]
        iintro H; iexists (codesOf (xin m c)); iexact H
      · rw [after0_6]; try exact .rfl
/-- A buffer of window 7 that holds the first point's store is what each point has to hand back. -/
theorem leaves0_7 (c : Dev nD) (t : Fin cfg0.N) : owns (c : Thread nD τ) (ms0_7 t) fullShare (handedOf (xin m c)) ⊢ ((dats m 0 c).leavesExact 7 t : sProp 𝕄) := by
  unfold Dat.leavesExact
  by_cases h0 : t.val = 0
  · rw [live_start (by decide) t h0, after0_7]; try exact .rfl
  · cases cfg0.idle 7 (cfg0.grid.coords t)
    · rw [after0_7]; try exact .rfl
    · cases (cfg0.win 7).flush t
      · simp only [before0_7 m c t h0]
        iintro H; iexists (handedOf (xin m c)); iexact H
      · rw [after0_7]; try exact .rfl

set_option maxHeartbeats 3200000 in
/-- The body at any point meets its obligation: by cases, the first point or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4,
    leaves0_0, leaves0_1, leaves0_2, leaves0_3, leaves0_4, leaves0_5,
    after0_0, after0_1, after0_2, after0_3, after0_4, after0_5]
  rw [show (dats m 0 c).owesAt () t.succ = (dats m 0 c).owesAt () t.castSucc from rfl]
  rw [show (dats m 0 c).Φ t.castSucc = iprop(carried m c t.val ∗ (∃ r, prngReg c r)) from rfl,
    show (dats m 0 c).Φ t.succ = iprop(carried m c (t.val + 1) ∗ (∃ r, prngReg c r)) from rfl]
  rw [show carried m c (t.val + 1) = iprop(owns (c : Thread nD τ) scM0_0 fullShare (blocksOf (xin m c)) ∗ owns (c : Thread nD τ) scM0_1 fullShare (scalesOf (xin m c))) from rfl]
  have hN : t.val < 91 := lt_of_lt_of_eq t.isLt (show cfg0.N = 91 from N_0)
  unfold yAt
  by_cases h0 : t.val = 0
  · obtain rfl : t = start := Fin.ext h0
    rw [show carried m c (start : Fin cfg0.N).val = iprop((∃ d, owns (c : Thread nD τ) scM0_0 fullShare (d)) ∗ (∃ d, owns (c : Thread nD τ) scM0_1 fullShare (d))) from rfl]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords start) _ _ _ _ _ _ _ _ _ _ _ _ _ _ _ _ _ _ _ _ ((hcond0_0 start).mpr rfl) (xin m c) (iblk m c 1 start) (iblk m c 2 start) (iblk m c 3 start) (iblk m c 4 start) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c start); iexact H6
    iapply (leaves0_7 m c start); iexact H7
  · simp only [before0_6 m c t h0, before0_7 m c t h0]
    rw [show carried m c t.val = iprop(owns (c : Thread nD τ) scM0_0 fullShare (blocksOf (xin m c)) ∗ owns (c : Thread nD τ) scM0_1 fullShare (scalesOf (xin m c))) from by
      obtain ⟨n, hn⟩ := Nat.exists_eq_succ_of_ne_zero h0; rw [hn]; rfl]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ _ _ (fun h => h0 (by have := (hcond0_0 t).mp h; omega)) (iblk m c 1 t) (iblk m c 2 t) (iblk m c 3 t) (iblk m c 4 t) (blocksOf (xin m c)) (scalesOf (xin m c)) Set.univ _)
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    iapply (leaves0_7 m c t); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one, which takes unfolding plain
-- definitions in a metavariable's type
set_option backward.isDefEq.respectTransparency.types false in
/-- The run: every array ends at what the points wrote back, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [PhiA0_eq]; exact .rfl)
    (hout := fun c => by
      rw [PhiA0_eq, show (dats m 0 c).Φ (Fin.last _) = iprop(iprop(owns (c : Thread nD τ) scM0_0 fullShare (blocksOf (xin m c)) ∗ owns (c : Thread nD τ) scM0_1 fullShare (scalesOf (xin m c))) ∗ (∃ r, prngReg c r)) from rfl]
      iintro ⟨⟨HS0, HS1⟩, Hg⟩
      isplitl [HS0 HS1]
      · isplitl [HS0]
        · iexists _; iexact HS0
        iexists _; iexact HS1
      iexact Hg)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Stages
-- ==== Proof.Final.lean ====
/- The kernel's three results as whole arrays of its arguments, at the real values: the blocks of the gated product point
   by point, the codes and the scales from the first point on. -/
module

public import proofs.«01_k».proof.Proof.Terms
public import proofs.«01_k».proof.Proof.Dats
public import Idealize.ShloMosaic.Lib.Pipeline.ValueKit.Geometry
public import Idealize.ShloMosaic.Lib.Pipeline.ValueKit.Point
public import Idealize.ShloMosaic.Lib.Pointwise

@[expose] public section

set_option maxRecDepth 16384

noncomputable section

namespace Cert.KernelIdeal.Stages

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

/-! ## The blocks' places -/

theorem idx0 : ∀ t : Fin cfg0.N, win0_0.index t = ![0, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, t.val] := by decide +kernel
theorem coords0 : ∀ t : Fin cfg0.N, (grid0.coords t 0).val = t.val := by decide +kernel

/-- The arguments, and the activations as the kernel's first operand. -/
abbrev X (c : Dev nD) : Vec Ideal S96x6016 .bf16 := V m c main_v0
abbrev W1 (c : Dev nD) : Vec Ideal S23296x6016 .fp8e4m3 := m ((c : Thread nD τ).loc main_arg1)
abbrev W2 (c : Dev nD) : Vec Ideal S23296x6016 .fp8e4m3 := m ((c : Thread nD τ).loc main_arg3)
abbrev S1 (c : Dev nD) : Vec Ideal S182x47 .f32 := m ((c : Thread nD τ).loc main_arg2)
abbrev S2 (c : Dev nD) : Vec Ideal S182x47 .f32 := m ((c : Thread nD τ).loc main_arg4)

theorem xin_eq (c : Dev nD) : xin m c = X m c := by
  funext y
  unfold xin
  blk_point [iblk, idx0 start]

theorem block1 (c : Dev nD) (t : Fin cfg0.N) (r : Fin 256) (k : Fin 6016) (n : Fin 23296) (hn : n.val = 256 * t.val + r.val) :
    iblk m c 1 t (ix2 r k : S256x6016.Idx) = W1 m c (ix2 n k) := by
  unfold iblk
  blk_simp
  refine congrArg (m ((c : Thread nD τ).loc main_arg1)) (funext fun a => Fin.ext ?_)
  fin_cases a <;> blk_simp [idx1 t]
  · show t.val * 256 + r.val = n.val; omega
  · rfl

theorem block2 (c : Dev nD) (t : Fin cfg0.N) (r : Fin 256) (k : Fin 6016) (n : Fin 23296) (hn : n.val = 256 * t.val + r.val) :
    iblk m c 2 t (ix2 r k : S256x6016.Idx) = W2 m c (ix2 n k) := by
  unfold iblk
  blk_simp
  refine congrArg (m ((c : Thread nD τ).loc main_arg3)) (funext fun a => Fin.ext ?_)
  fin_cases a <;> blk_simp [idx2 t]
  · show t.val * 256 + r.val = n.val; omega
  · rfl

theorem block3 (c : Dev nD) (t : Fin cfg0.N) : iblk m c 3 t = S1 m c := by
  funext y
  blk_point [iblk, V, idx3 t]

theorem block4 (c : Dev nD) (t : Fin cfg0.N) : iblk m c 4 t = S2 m c := by
  funext y
  blk_point [iblk, V, idx4 t]

/-! ## The arrays -/

/-- The projection of output row `n` of the whole weights. -/
def projectionAt (x : Vec Ideal S96x6016 .bf16) (w : Vec Ideal S23296x6016 .fp8e4m3) (s : Vec Ideal S182x47 .f32) (t : Fin 96) (n : Fin 23296) : EReal :=
  ∑ g : Fin 47, (∑ k : Fin 128, w (ix2 n (at_ g k)) * code x t g k) * (scaleOf x t g * s (ix2 ⟨n.val / 128, by omega⟩ g))

/-- The gated product. -/
def product (x : Vec Ideal S96x6016 .bf16) (w w' : Vec Ideal S23296x6016 .fp8e4m3) (s s' : Vec Ideal S182x47 .f32) : Vec Ideal S96x23296 .bf16 :=
  fun j => gate (projectionAt x w s (j 0) (j 1)) (projectionAt x w' s' (j 0) (j 1))

/-- A block's projection is the whole array's at the block's rows. -/
theorem projection_eq (x : Vec Ideal S96x6016 .bf16) (i : grid0.Coords) (b : Vec Ideal S256x6016 .fp8e4m3) (w : Vec Ideal S23296x6016 .fp8e4m3) (s : Vec Ideal S182x47 .f32)
    (t : Fin 96) (r : Fin 256) (n : Fin 23296) (hn : n.val = 256 * (i 0).val + r.val) (hb : ∀ k, b (ix2 r k) = w (ix2 n k)) :
    projection x i b s r t = projectionAt x w s t n := by
  unfold projection projectionAt
  refine Finset.sum_congr rfl fun g _ => ?_
  unfold term dot
  rw [show scaleRow i r = ⟨n.val / 128, by omega⟩ from Fin.ext (show 2 * (i 0).val + r.val / 128 = n.val / 128 by omega)]
  simp only [hb]

theorem final5 (c : Dev nD) : (dats m 0 c).arrAt 5 cfg0.N = product (X m c) (W1 m c) (W2 m c) (S1 m c) (S2 m c) := by
  refine (dats m 0 c).arrAt_eq_of_covers 5 _ (by decide +kernel) fun t hf y => ?_
  blk_simp
  rw [after0_5]
  obtain ⟨a, r, rfl⟩ : ∃ (a : Fin 96) (r : Fin 256), y = (ix2 a r : S96x256.Idx) := ⟨y 0, y 1, by funext d; fin_cases d <;> rfl⟩
  have ht : t.val < 91 := Nat.lt_of_lt_of_eq t.isLt N_0
  have hn : 256 * t.val + r.val < 23296 := by omega
  have he : (win0_5.blk t).view.emb (ix2 a r) = (ix2 a ⟨256 * t.val + r.val, hn⟩ : S96x23296.Idx) := by
    funext d; refine Fin.ext ?_
    fin_cases d <;> blk_simp [idx5 t]
    · rfl
    · show t.val * 256 + r.val = 256 * t.val + r.val; omega
  rw [he]
  unfold yAt
  rw [xin_eq, block3, block4]
  refine (outBlock_at (X m c) (grid0.coords t) (iblk m c 1 t) (S1 m c) (iblk m c 2 t) (S2 m c) a r).trans ?_
  have hc : (⟨256 * t.val + r.val, hn⟩ : Fin 23296).val = 256 * (grid0.coords t 0).val + r.val := by rw [coords0]
  rw [projection_eq (X m c) (grid0.coords t) (iblk m c 1 t) (W1 m c) (S1 m c) a r _ hc fun k => block1 m c t r k _ rfl,
    projection_eq (X m c) (grid0.coords t) (iblk m c 2 t) (W2 m c) (S2 m c) a r _ hc fun k => block2 m c t r k _ rfl]
  rfl

theorem final6 (c : Dev nD) : (dats m 0 c).arrAt 6 cfg0.N = codesOf (X m c) := by
  refine (dats m 0 c).arrAt_eq_of_after_last 6 ⟨90, by decide⟩ (by decide +kernel) _ fun j => ?_
  rw [← xin_eq]
  exact congrFun (after0_6 m c _) _

theorem final7 (c : Dev nD) : (dats m 0 c).arrAt 7 cfg0.N = handedOf (X m c) := by
  refine (dats m 0 c).arrAt_eq_of_after_last 7 ⟨90, by decide⟩ (by decide +kernel) _ fun j => ?_
  rw [← xin_eq]
  exact congrFun (after0_7 m c _) _

/-- The run: the three results, and the arguments unchanged. -/
theorem run_value : θ_run defs (onTc (τ := τ) (main (F := Ideal))) ⟨m, fun _ => 0, ρ⟩ fun r => ∀ c : Dev nD,
      r.2.mem ((c : Thread nD τ).loc main_v1_0) = product (X m c) (W1 m c) (W2 m c) (S1 m c) (S2 m c)
      ∧ r.2.mem ((c : Thread nD τ).loc main_v1_1) = codesOf (X m c)
      ∧ r.2.mem ((c : Thread nD τ).loc main_v1_2) = handedOf (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c), ((h c).1 7).trans (final7 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c)))⟩)
    (run_main m ρ)

end Cert.KernelIdeal.Stages
-- ==== Proof.Plain.lean ====
/- The reference's three results, entry by entry, at the real values. -/
module

public import proofs.«01_k».proof.Proof.Gen.ReferenceIdeal.Value
public import proofs.«01_k».proof.Proof.Exponent
public import Idealize.ShloMosaic.Lib.Pointwise

@[expose] public section

set_option maxRecDepth 16384
set_option maxHeartbeats 1600000

noncomputable section

namespace Cert.ReferenceIdeal.Plain

open Cert.ReferenceIdeal Cert.ReferenceIdeal.Gen Idealize.ShloMosaic

variable (x0 : Vec Ideal S96x6016 .bf16) (w1 w3 : Vec Ideal S23296x6016 .fp8e4m3) (s2 s4 : Vec Ideal S182x47 .f32)

/-- The largest magnitude of token `t` in group `g`. -/
def peak (t : Fin 96) (g : Fin 47) : EReal :=
  Finset.fold max (Ideal.ofBits FTy.f32 4286578688#32) (fun k : Fin 128 => FloatOps.absf (F := Ideal) (φ := .f32) (x0 (ix2 t ⟨g.val * 128 + k.val, by omega⟩))) Finset.univ

/-- A select on either of two tests. -/
theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp only [hp, hq, decide_true, decide_false, or_true, true_or, or_self, if_true, if_false] <;> rfl

theorem exponent_at (t : Fin 96) (g : Fin 47) : k0_pay4 x0 (ix2 t g : S96x47.Idx) = Exponent.searched (peak x0 t g) := by
  pointwise [k0_pay4, k0_pay3, multiReduction_maximumf_eq_fold, multiReduction_minimumf_eq_fold]
  rw [select_or]
  rfl

/-- The scale of a group, the code of an entry, and the projection of a row. -/
def scaleOf (t : Fin 96) (g : Fin 47) : EReal := FloatOps.exp2 (F := Ideal) (φ := .f32) (Exponent.searched (peak x0 t g))

def code (t : Fin 96) (g : Fin 47) (k : Fin 128) : EReal :=
  min (Ideal.ofBits FTy.f32 1138753536#32) (max (Ideal.ofBits FTy.f32 3286237184#32)
    (x0 (ix2 t ⟨g.val * 128 + k.val, by omega⟩) * FloatOps.exp2 (F := Ideal) (φ := .f32) (0 - Exponent.searched (peak x0 t g))))

def projection (w : Vec Ideal S23296x6016 .fp8e4m3) (s : Vec Ideal S182x47 .f32) (t : Fin 96) (n : Fin 23296) : EReal :=
  ∑ g : Fin 47, (∑ k : Fin 128, code x0 t g k * w (ix2 n ⟨g.val * 128 + k.val, by omega⟩)) * scaleOf x0 t g * s (ix2 ⟨n.val / 128, by omega⟩ g)

theorem scale_at (t : Fin 96) (g : Fin 47) : k0_pay5 x0 (ix2 t g : S96x47.Idx) = scaleOf x0 t g := by
  pointwise [k0_pay5]
  rw [exponent_at]
  rfl

theorem code_at (t : Fin 96) (g : Fin 47) (k : Fin 128) : k0_pay6 x0 (ix3 t g k : S96x47x128.Idx) = code x0 t g k := by
  pointwise [k0_pay6, k0_pay3]
  rw [exponent_at]
  rfl

theorem zero2 : (![0, 0] : Fin 2 → ℕ) = fun _ => 0 := by funext a; fin_cases a <;> rfl

theorem out5_eq : out0_5 x0 w1 s2 w3 s4 = k0_pay1 (k0_pay5 x0) (k0_pay7 x0) s2 (k0_pay8 w1) w3 s4 := by
  unfold_out out0_5
  unfold r0_0 r0_1 r0_2 r0_3
  rw [View.canon_unit_zero zero2, View.ld_unit_zero zero2, View.ld_unit_zero zero2, View.ld_unit_zero zero2, View.ld_unit_zero zero2, View.ld_unit_zero zero2]

theorem out6_eq : out0_6 x0 w1 s2 w3 s4 = k0_pay2 (k0_pay6 x0) := by
  unfold_out out0_6
  unfold r0_0
  rw [View.canon_unit_zero zero2, View.ld_unit_zero zero2]

theorem out7_eq : out0_7 x0 w1 s2 w3 s4 = k0_pay5 x0 := by
  unfold_out out0_7
  unfold r0_0 r0_4
  rw [View.canon_unit_zero zero2, View.ld_unit_zero zero2]

/-- The gated product. -/
theorem out5_at (t : Fin 96) (n : Fin 23296) :
    out0_5 x0 w1 s2 w3 s4 (ix2 t n : S96x23296.Idx) = projection x0 w1 s2 t n * Ideal.logistic (projection x0 w1 s2 t n) * projection x0 w3 s4 t n := by
  rw [out5_eq]
  pointwise [k0_pay1, k0_pay7, k0_pay8]
  simp only [scale_at, code_at]
  rfl

/-- The codes. -/
theorem out6_at (t : Fin 96) (g : Fin 47) (k : Fin 128) (c : Fin 6016) (hc : c.val = 128 * g.val + k.val) :
    out0_6 x0 w1 s2 w3 s4 (ix2 t c : S96x6016.Idx) = code x0 t g k := by
  have hb : 128 * g.val + k.val < 6016 := by have := g.isLt; have := k.isLt; omega
  obtain rfl : c = ⟨128 * g.val + k.val, hb⟩ := Fin.ext hc
  rw [out6_eq, ← code_at]
  pointwise [k0_pay2]

/-- The scales. -/
theorem out7_at (t : Fin 96) (g : Fin 47) : out0_7 x0 w1 s2 w3 s4 (ix2 t g : S96x47.Idx) = scaleOf x0 t g := by
  rw [out7_eq, scale_at]

end Cert.ReferenceIdeal.Plain
-- ==== Proof.PlainFinal.lean ====
/- The reference's three results as whole arrays of its arguments: its one point's blocks are the arrays. -/
module

public import proofs.«01_k».proof.Proof.Plain
public import Idealize.ShloMosaic.Lib.Pipeline.ValueKit.Geometry
public import Idealize.ShloMosaic.Lib.Pipeline.ValueKit.Point

@[expose] public section

set_option maxRecDepth 16384
set_option maxHeartbeats 1600000

noncomputable section

namespace Cert.ReferenceIdeal.Plain

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel

/-- The arguments, and the activations as the region's first operand. -/
abbrev X (c : Dev nD) : Vec Ideal S96x6016 .bf16 := V m c main_v0
abbrev W1 (c : Dev nD) : Vec Ideal S23296x6016 .fp8e4m3 := m ((c : Thread nD τ).loc main_arg1)
abbrev W2 (c : Dev nD) : Vec Ideal S23296x6016 .fp8e4m3 := m ((c : Thread nD τ).loc main_arg3)
abbrev S1 (c : Dev nD) : Vec Ideal S182x47 .f32 := m ((c : Thread nD τ).loc main_arg2)
abbrev S2 (c : Dev nD) : Vec Ideal S182x47 .f32 := m ((c : Thread nD τ).loc main_arg4)

theorem block0 (c : Dev nD) (t : Fin cfg0.N) : iblk m c 0 t = X m c := by
  funext y
  blk_point [iblk, idx0 t]

theorem block1 (c : Dev nD) (t : Fin cfg0.N) : iblk m c 1 t = W1 m c := by
  funext y
  blk_point [iblk, V, idx1 t]

theorem block2 (c : Dev nD) (t : Fin cfg0.N) : iblk m c 2 t = S1 m c := by
  funext y
  blk_point [iblk, V, idx2 t]

theorem block3 (c : Dev nD) (t : Fin cfg0.N) : iblk m c 3 t = W2 m c := by
  funext y
  blk_point [iblk, V, idx3 t]

theorem block4 (c : Dev nD) (t : Fin cfg0.N) : iblk m c 4 t = S2 m c := by
  funext y
  blk_point [iblk, V, idx4 t]

theorem final5 (c : Dev nD) : (dats m 0 c).arrAt 5 cfg0.N = out0_5 (X m c) (W1 m c) (S1 m c) (W2 m c) (S2 m c) := by
  refine (dats m 0 c).arrAt_eq_of_after_last 5 ⟨0, by decide⟩ (by decide +kernel) _ fun j => ?_
  rw [← block0 m c ⟨0, by decide⟩, ← block1 m c ⟨0, by decide⟩, ← block2 m c ⟨0, by decide⟩, ← block3 m c ⟨0, by decide⟩, ← block4 m c ⟨0, by decide⟩]
  exact congrFun (after0_5 m c _) _

theorem final6 (c : Dev nD) : (dats m 0 c).arrAt 6 cfg0.N = out0_6 (X m c) (W1 m c) (S1 m c) (W2 m c) (S2 m c) := by
  refine (dats m 0 c).arrAt_eq_of_after_last 6 ⟨0, by decide⟩ (by decide +kernel) _ fun j => ?_
  rw [← block0 m c ⟨0, by decide⟩, ← block1 m c ⟨0, by decide⟩, ← block2 m c ⟨0, by decide⟩, ← block3 m c ⟨0, by decide⟩, ← block4 m c ⟨0, by decide⟩]
  exact congrFun (after0_6 m c _) _

theorem final7 (c : Dev nD) : (dats m 0 c).arrAt 7 cfg0.N = out0_7 (X m c) (W1 m c) (S1 m c) (W2 m c) (S2 m c) := by
  refine (dats m 0 c).arrAt_eq_of_after_last 7 ⟨0, by decide⟩ (by decide +kernel) _ fun j => ?_
  rw [← block0 m c ⟨0, by decide⟩, ← block1 m c ⟨0, by decide⟩, ← block2 m c ⟨0, by decide⟩, ← block3 m c ⟨0, by decide⟩, ← block4 m c ⟨0, by decide⟩]
  exact congrFun (after0_7 m c _) _

end Cert.ReferenceIdeal.Plain
-- ==== Proof.Bridge.lean ====
/- The kernel's closed forms are the reference's, where every group's largest magnitude fits the exponent's range. -/
module

public import proofs.«01_k».proof.Proof.Kept
public import proofs.«01_k».proof.Proof.Final
public import proofs.«01_k».proof.Proof.PlainFinal

@[expose] public section

set_option maxRecDepth 16384
set_option maxHeartbeats 1600000

noncomputable section

namespace Cert.Bridge

open Idealize.ShloMosaic

/-- The activations, the weights and the weights' scales. -/
abbrev Act := Vec Ideal ⟨2, ![96, 6016]⟩ .bf16
abbrev Weight := Vec Ideal ⟨2, ![23296, 6016]⟩ .fp8e4m3
abbrev WScale := Vec Ideal ⟨2, ![182, 47]⟩ .f32

/-- Every group's largest magnitude fits. -/
def AllFit (x : Act) : Prop := ∀ t g, Exponent.Fits (Cert.ReferenceIdeal.Plain.peak x t g)

variable {x : Act} (w w' : Weight) (s s' : WScale)

/-- The kernel writes entry `k` of group `g` as `128 g + k`, the reference as `g 128 + k`. -/
theorem at_eq (g : Fin 47) (k : Fin 128) : Cert.KernelIdeal.Stages.at_ g k = ⟨g.val * 128 + k.val, by omega⟩ :=
  Fin.ext (show 128 * g.val + k.val = g.val * 128 + k.val by omega)

theorem peak_eq (x : Act) (t : Fin 96) (g : Fin 47) : Cert.KernelIdeal.Stages.peak x t g = Cert.ReferenceIdeal.Plain.peak x t g := by
  rw [Cert.KernelIdeal.Stages.peak_eq]
  simp only [at_eq]
  rfl

theorem scale_eq (h : AllFit x) (t : Fin 96) (g : Fin 47) : Cert.KernelIdeal.Stages.scaleOf x t g = Cert.ReferenceIdeal.Plain.scaleOf x t g := by
  unfold Cert.KernelIdeal.Stages.scaleOf Cert.ReferenceIdeal.Plain.scaleOf
  rw [peak_eq]
  exact (Exponent.agree (h t g)).1

theorem code_eq (h : AllFit x) (t : Fin 96) (g : Fin 47) (k : Fin 128) : Cert.KernelIdeal.Stages.code x t g k = Cert.ReferenceIdeal.Plain.code x t g k := by
  unfold Cert.KernelIdeal.Stages.code Cert.ReferenceIdeal.Plain.code Cert.KernelIdeal.Stages.codeBy Cert.KernelIdeal.Stages.invAt
  rw [peak_eq, at_eq, (Exponent.agree (h t g)).2]

theorem projection_eq (h : AllFit x) (t : Fin 96) (n : Fin 23296) :
    Cert.KernelIdeal.Stages.projectionAt x w s t n = Cert.ReferenceIdeal.Plain.projection x w s t n := by
  unfold Cert.KernelIdeal.Stages.projectionAt Cert.ReferenceIdeal.Plain.projection
  refine Finset.sum_congr rfl fun g _ => ?_
  rw [scale_eq h, mul_assoc]
  refine congrArg (· * _) (Finset.sum_congr rfl fun k _ => ?_)
  rw [code_eq h, at_eq, mul_comm]

/-- The first result. -/
theorem product_eq (h : AllFit x) : Cert.KernelIdeal.Stages.product x w w' s s' = Cert.ReferenceIdeal.Gen.out0_5 x w s w' s' := by
  funext j
  obtain ⟨t, n, rfl⟩ : ∃ (t : Fin 96) (n : Fin 23296), j = ix2 t n := ⟨j 0, j 1, by funext d; fin_cases d <;> rfl⟩
  refine Eq.trans ?_ (Cert.ReferenceIdeal.Plain.out5_at x w w' s s' t n).symm
  rw [← projection_eq w s h, ← projection_eq w' s' h]
  rfl

/-- The second result. -/
theorem codes_eq (h : AllFit x) : Cert.KernelIdeal.Stages.codesOf x = Cert.ReferenceIdeal.Gen.out0_6 x w s w' s' := by
  funext j
  obtain ⟨t, g, k, rfl⟩ : ∃ (t : Fin 96) (g : Fin 47) (k : Fin 128), j = ix2 t (Cert.KernelIdeal.Stages.at_ g k) := by
    have hj : (j 1).val < 6016 := (j 1).isLt
    refine ⟨j 0, ⟨(j 1).val / 128, by omega⟩, ⟨(j 1).val % 128, by omega⟩, ?_⟩
    funext d
    fin_cases d
    · rfl
    · exact Fin.ext (show (j 1).val = 128 * ((j 1).val / 128) + (j 1).val % 128 by omega)
  rw [Cert.KernelIdeal.Stages.codesOf_at, code_eq h]
  exact (Cert.ReferenceIdeal.Plain.out6_at x w w' s s' t g k _ rfl).symm

/-- The third result. -/
theorem scales_eq (h : AllFit x) : Cert.KernelIdeal.Stages.handedOf x = Cert.ReferenceIdeal.Gen.out0_7 x w s w' s' := by
  funext j
  obtain ⟨t, g, rfl⟩ : ∃ (t : Fin 96) (g : Fin 47), j = ix2 t g := ⟨j 0, j 1, by funext d; fin_cases d <;> rfl⟩
  rw [Cert.KernelIdeal.Stages.handedOf_at, scale_eq h]
  exact (Cert.ReferenceIdeal.Plain.out7_at x w w' s s' t g).symm

end Cert.Bridge
-- ==== Proof.Fits.lean ====
/- What the precondition says of one token and group: its largest magnitude fits. -/
module

public import proofs.«01_k».proof.Pre_in_range
public import proofs.«01_k».proof.Proof.Exponent
public import Idealize.ShloMosaic.Lib.Pointwise
public import Idealize.ShloMosaic.Lib.KernelVsHost

@[expose] public section

set_option maxRecDepth 16384
set_option maxHeartbeats 1600000

noncomputable section

namespace Cert.Pre_in_range

open Idealize.ShloMosaic

/-- The largest magnitude of token `t` in group `g` of the argument. -/
def peak (a0 : Vec Ideal S96x1x6016 .bf16) (t : Fin 96) (g : Fin 47) : EReal :=
  Finset.fold max (Ideal.ofBits FTy.f32 4286578688#32) (fun k : Fin 128 => FloatOps.absf (F := Ideal) (φ := .f32) (a0 (ix3 t 0 ⟨g.val * 128 + k.val, by omega⟩))) Finset.univ

theorem bit_or {o p q r : Bool} (h : IntOp.ori (IntOp.ori (BitVec.ofBool o) (BitVec.ofBool p)) (IntOp.andi (BitVec.ofBool q) (BitVec.ofBool r)) = 1#1) :
    (o = true ∨ p = true) ∨ (q = true ∧ r = true) := by
  revert h; cases o <;> cases p <;> cases q <;> cases r <;> decide

theorem fits [Facts] {a0 : Vec Ideal S96x1x6016 .bf16} {a1 : Vec Ideal S23296x6016 .fp8e4m3} {a2 : Vec Ideal S182x47 .f32} {a3 : Vec Ideal S23296x6016 .fp8e4m3}
    {a4 : Vec Ideal S182x47 .f32} (h : fn (F := Ideal) a0 a1 a2 a3 a4 = fun _ => 1#1) (t : Fin 96) (g : Fin 47) : Exponent.Fits (peak a0 t g) := by
  have e := congrFun h (ix2 t g)
  revert e
  pointwise [fn, Host.reduce_eq_fold]
  intro e
  have e' := bit_or e
  simp only [decide_eq_true_eq] at e'
  exact e'

end Cert.Pre_in_range
-- ==== Proof.Algebraic.lean ====
/- At the real values, from arguments that agree and fit, the kernel and the reference end with the same three results. -/
module

public import proofs.«01_k».proof.Defs
public import proofs.«01_k».proof.Proof.Bridge
public import proofs.«01_k».proof.Proof.Fits

@[expose] public section

set_option maxRecDepth 16384
set_option maxHeartbeats 1600000

noncomputable section

namespace Cert.Proof

open Idealize.ShloMosaic Idealize.ShloMosaic.TcCoe Idealize.SL.Sem

/-- The precondition's side conditions. -/
theorem pre_facts : Cert.Pre_in_range.Facts := by
  constructor <;> decide

/-- The reference's first operand is the kernel's: the same reshape of the argument. -/
theorem operand (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Plain.X m' c = Cert.KernelIdeal.Stages.X m c := by
  unfold Cert.ReferenceIdeal.Plain.X Cert.KernelIdeal.Stages.X
  entry_read
  exact congrArg (fun v : Vec Ideal Cert.KernelIdeal.S96x1x6016 .bf16 =>
    shapeCast (s := Cert.KernelIdeal.S96x1x6016) Cert.KernelIdeal.S96x6016 v Cert.KernelIdeal.Gen.shapeCasts_S96x1x6016_S96x6016) h

/-- The precondition, read at the kernel's first operand. -/
theorem allFit [Cert.Pre_in_range.Facts] (m : (ℓ : Loc Cert.KernelIdeal.nD Cert.KernelIdeal.τ Cert.KernelIdeal.sig) → Buf (Elt Ideal) ℓ)
    (h : Cert.Pre_KernelIdeal_in_range m) (c : Dev Cert.KernelIdeal.nD) : Cert.Bridge.AllFit (Cert.KernelIdeal.Stages.X m c) := by
  intro t g
  have e : Cert.ReferenceIdeal.Plain.peak (Cert.KernelIdeal.Stages.X m c) t g
      = Cert.Pre_in_range.peak (m ((c.tc : Thread Cert.KernelIdeal.nD Cert.KernelIdeal.τ).loc Cert.KernelIdeal.main_arg0)) t g := by
    unfold Cert.ReferenceIdeal.Plain.peak Cert.Pre_in_range.peak Cert.KernelIdeal.Stages.X
    entry_read
    pointwise []
  rw [e]
  exact Cert.Pre_in_range.fits (h c) t g

/-- The value claim: results 1, 2 and 3. -/
theorem algebraic [hp : Cert.Pre_in_range.Facts] : Cert.algebraic_KernelIdeal_ReferenceIdeal_pre_in_range := by
  intro m g m' g' hpre hagree
  refine ⟨fun c => Cert.KernelIdeal.Stages.product (Cert.KernelIdeal.Stages.X m c) (Cert.KernelIdeal.Stages.W1 m c) (Cert.KernelIdeal.Stages.W2 m c) (Cert.KernelIdeal.Stages.S1 m c) (Cert.KernelIdeal.Stages.S2 m c),
    fun c => Cert.KernelIdeal.Stages.codesOf (Cert.KernelIdeal.Stages.X m c), fun c => Cert.KernelIdeal.Stages.handedOf (Cert.KernelIdeal.Stages.X m c),
    Cert.KernelIdeal.Stages.run_value m g, ?_⟩
  refine (θ_run Cert.ReferenceIdeal.defs _ _).mono (fun r h c => ?_) (Cert.ReferenceIdeal.Value.run_blocks (F := Ideal) m' g')
  obtain ⟨h5, h6, h7, ha⟩ := h c
  obtain ⟨e0, e1, e2, e3, e4⟩ := hagree c
  have hx := operand m m' c e0
  have hf := allFit m hpre c
  have hw1 : Cert.ReferenceIdeal.Plain.W1 m' c = Cert.KernelIdeal.Stages.W1 m c := e1
  have hs1 : Cert.ReferenceIdeal.Plain.S1 m' c = Cert.KernelIdeal.Stages.S1 m c := e2
  have hw2 : Cert.ReferenceIdeal.Plain.W2 m' c = Cert.KernelIdeal.Stages.W2 m c := e3
  have hs2 : Cert.ReferenceIdeal.Plain.S2 m' c = Cert.KernelIdeal.Stages.S2 m c := e4
  refine ⟨h5.trans ?_, h6.trans ?_, h7.trans ?_, ha⟩
  · rw [Cert.ReferenceIdeal.Plain.final5, hx, hw1, hs1, hw2, hs2]
    exact (Cert.Bridge.product_eq _ _ _ _ hf).symm
  · rw [Cert.ReferenceIdeal.Plain.final6, hx, hw1, hs1, hw2, hs2]
    exact (Cert.Bridge.codes_eq _ _ _ _ hf).symm
  · rw [Cert.ReferenceIdeal.Plain.final7, hx, hw1, hs1, hw2, hs2]
    exact (Cert.Bridge.scales_eq _ _ _ _ hf).symm

end Cert.Proof
-- ==== Proof.lean ====
module

public import proofs.«01_k».proof.Defs
public import proofs.«01_k».proof.Proof.KernelFrame
public import proofs.«01_k».proof.Proof.Algebraic

@[expose] public section

namespace Cert.Proof

/-- Every claim of the certificate: the three frames, that the idealized kernel is the kernel's own text, and that at the
    real values the kernel's three results are the reference's. -/
theorem claim : Cert.Claim :=
  ⟨Cert.Kernel.Gen.facts, Cert.KernelIdeal.Gen.facts, Cert.ReferenceIdeal.Gen.facts, pre_facts,
    fun m g _ => Cert.Kernel.Whole.frame m g,
    fun m g _ => Cert.KernelIdeal.Stages.frame m g,
    fun m g _ => Cert.KernelIdeal.Stages.frame m g,
    fun m g _ => Cert.ReferenceIdeal.Gen.frame m g,
    fun m g _ => Cert.ReferenceIdeal.Gen.frame m g,
    trivial,
    algebraic (hp := pre_facts)⟩

end Cert.Proof
